-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3072, 1536]⟩ ⟨2, ![3072, 6144]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1536, 3072]⟩ ⟨2, ![6144, 3072]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![768, 3072]⟩ ⟨2, ![3072, 3072]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1536 : Shape := ⟨2, ![3072, 1536]⟩
abbrev S1536x3072 : Shape := ⟨2, ![1536, 3072]⟩
abbrev S768x3072 : Shape := ⟨2, ![768, 3072]⟩
abbrev S3x384x3072 : Shape := ⟨3, ![3, 384, 3072]⟩
abbrev S384x1536 : Shape := ⟨2, ![384, 1536]⟩
abbrev S2 : Shape := ⟨1, ![2]⟩
abbrev S3x4 : Shape := ⟨2, ![3, 4]⟩
abbrev S_ : Shape := ⟨0, ![]⟩
abbrev S1 : Shape := ⟨1, ![1]⟩
abbrev S96x1536 : Shape := ⟨2, ![96, 1536]⟩
abbrev S96x3072 : Shape := ⟨2, ![96, 3072]⟩
abbrev S1x96x3072 : Shape := ⟨3, ![1, 96, 3072]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S3072x1536, .f32⟩
  | .hbm, ⟨1, _⟩ => ⟨S1536x3072, .f32⟩
  | .hbm, ⟨2, _⟩ => ⟨S768x3072, .f32⟩
  | .local _ .vmem, ⟨0, _⟩ => ⟨S1536x3072, .f32⟩
  | .local _ .vmem, ⟨1, _⟩ => ⟨S768x3072, .f32⟩
  | .local _ .vmem, ⟨2, _⟩ => ⟨S3x384x3072, .bf16⟩
  | .local _ .vmem, ⟨3, _⟩ => ⟨S3x384x3072, .bf16⟩
  | .local _ .vmem, ⟨4, _⟩ => ⟨S384x1536, .f32⟩
  | .local _ .vmem, ⟨5, _⟩ => ⟨S384x1536, .f32⟩
  | _, _ => ⟨S3072x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_10 : BitVec 32 := 4#32
  let v13 : BitVec 32 := Scalar.addi v2 c4_i32_10
  let c1_i32_11 : BitVec 32 := 1#32
  let v14 : BitVec 32 := Scalar.subi v13 c1_i32_11
  let c4_i32_12 : BitVec 32 := 4#32
  let v15 : BitVec 32 := Scalar.remsi v14 c4_i32_12
  let c768_i32 : BitVec 32 := 768#32
  let v16 : BitVec 32 := Scalar.muli v15 c768_i32
  let c0_i32_13 : BitVec 32 := 0#32
  let v17 : BitVec 32 := Scalar.addi v16 c0_i32_13
  let c0_i32_15 : BitVec 32 := 0#32
  ![v17.toNat, 0]
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_30 : BitVec 32 := 1#32
  let v32 : BitVec 32 := Scalar.muli v7 c1_i32_30
  let v33 : BitVec 32 := Scalar.addi c0_i32_31 v32
  v33.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_36 : BitVec 32 := 1#32
  let v42 : BitVec 32 := Scalar.addi v2 c1_i32_36
  let c4_i32_37 : BitVec 32 := 4#32
  let v43 : BitVec 32 := Scalar.remsi v42 c4_i32_37
  let c768_i32_38 : BitVec 32 := 768#32
  let v44 : BitVec 32 := Scalar.muli v43 c768_i32_38
  let c384_i32 : BitVec 32 := 384#32
  let v45 : BitVec 32 := Scalar.addi v44 c384_i32
  let c0_i32_40 : BitVec 32 := 0#32
  ![v45.toNat, 0]
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_57 : BitVec 32 := 1#32
  let v60 : BitVec 32 := Scalar.muli v5 c1_i32_57
  let v61 : BitVec 32 := Scalar.addi c0_i32_58 v60
  v61.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_76 : BitVec 32 := 1#32
  let v78 : BitVec 32 := Scalar.muli v7 c1_i32_76
  let v79 : BitVec 32 := Scalar.addi c0_i32_77 v78
  v79.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_95 : BitVec 32 := 1#32
  let v96 : BitVec 32 := Scalar.muli v5 c1_i32_95
  let v97 : BitVec 32 := Scalar.addi c0_i32_96 v96
  v97.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_114 : BitVec 32 := 1#32
  let v114 : BitVec 32 := Scalar.muli v7 c1_i32_114
  let v115 : BitVec 32 := Scalar.addi c0_i32_115 v114
  v115.toNat
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_133 : BitVec 32 := 1#32
  let v132 : BitVec 32 := Scalar.muli v5 c1_i32_133
  let v133 : BitVec 32 := Scalar.addi c0_i32_134 v132
  v133.toNat
def k0_dev9 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_151 : BitVec 32 := 1#32
  let v150 : BitVec 32 := Scalar.muli v7 c1_i32_151
  let v151 : BitVec 32 := Scalar.addi c0_i32_152 v150
  v151.toNat
def k0_dev10 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_170 : BitVec 32 := 1#32
  let v168 : BitVec 32 := Scalar.muli v5 c1_i32_170
  let v169 : BitVec 32 := Scalar.addi c0_i32_171 v168
  v169.toNat
def k0_off3 (d0 : Dev nD) (c0_i32_177 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v178 : BitVec 32 := Scalar.addi v2 c8_i32
  let c2_i32_176 : BitVec 32 := 2#32
  let v179 : BitVec 32 := Scalar.subi v178 c2_i32_176
  let v180 : BitVec 32 := Scalar.subi v179 c0_i32_177
  let c4_i32_178 : BitVec 32 := 4#32
  let v181 : BitVec 32 := Scalar.remsi v180 c4_i32_178
  let c768_i32_182 : BitVec 32 := 768#32
  let v185 : BitVec 32 := Scalar.muli v181 c768_i32_182
  let c0_i32_183 : BitVec 32 := 0#32
  let v186 : BitVec 32 := Scalar.addi v185 c0_i32_183
  let c0_i32_185 : BitVec 32 := 0#32
  ![v186.toNat, 0]
def k0_off4 (d0 : Dev nD) (c0_i32_180 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_179 : BitVec 32 := 2#32
  let v182 : BitVec 32 := Scalar.addi v2 c2_i32_179
  let v183 : BitVec 32 := Scalar.addi v182 c0_i32_180
  let c4_i32_181 : BitVec 32 := 4#32
  let v184 : BitVec 32 := Scalar.remsi v183 c4_i32_181
  let c768_i32_188 : BitVec 32 := 768#32
  let v193 : BitVec 32 := Scalar.muli v184 c768_i32_188
  let c384_i32_189 : BitVec 32 := 384#32
  let v194 : BitVec 32 := Scalar.addi v193 c384_i32_189
  let c0_i32_191 : BitVec 32 := 0#32
  ![v194.toNat, 0]
def k0_dev11 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_256 : BitVec 32 := 1#32
  let v240 : BitVec 32 := Scalar.muli v7 c1_i32_256
  let v241 : BitVec 32 := Scalar.addi c0_i32_257 v240
  v241.toNat
def k0_dev12 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_279 : BitVec 32 := 1#32
  let v261 : BitVec 32 := Scalar.muli v5 c1_i32_279
  let v262 : BitVec 32 := Scalar.addi c0_i32_280 v261
  v262.toNat
def k0_dev13 (d0 : Dev nD) : Nat :=
  let c0_i32_349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_348 : BitVec 32 := 1#32
  let v310 : BitVec 32 := Scalar.muli v7 c1_i32_348
  let v311 : BitVec 32 := Scalar.addi c0_i32_349 v310
  v311.toNat
def k0_dev14 (d0 : Dev nD) : Nat :=
  let c0_i32_372 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_371 : BitVec 32 := 1#32
  let v331 : BitVec 32 := Scalar.muli v5 c1_i32_371
  let v332 : BitVec 32 := Scalar.addi c0_i32_372 v331
  v332.toNat
def k0_dev15 (d0 : Dev nD) : Nat :=
  let c0_i32_441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_440 : BitVec 32 := 1#32
  let v380 : BitVec 32 := Scalar.muli v7 c1_i32_440
  let v381 : BitVec 32 := Scalar.addi c0_i32_441 v380
  v381.toNat
def k0_dev16 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_463 : BitVec 32 := 1#32
  let v401 : BitVec 32 := Scalar.muli v5 c1_i32_463
  let v402 : BitVec 32 := Scalar.addi c0_i32_464 v401
  v402.toNat
def k0_dev17 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_532 : BitVec 32 := 1#32
  let v450 : BitVec 32 := Scalar.muli v7 c1_i32_532
  let v451 : BitVec 32 := Scalar.addi c0_i32_533 v450
  v451.toNat
def k0_dev18 (d0 : Dev nD) : Nat :=
  let c0_i32_556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_555 : BitVec 32 := 1#32
  let v471 : BitVec 32 := Scalar.muli v5 c1_i32_555
  let v472 : BitVec 32 := Scalar.addi c0_i32_556 v471
  v472.toNat
def k0_dev19 (d0 : Dev nD) : Nat :=
  let c0_i32_643 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_642 : BitVec 32 := 1#32
  let v543 : BitVec 32 := Scalar.muli v7 c1_i32_642
  let v544 : BitVec 32 := Scalar.addi c0_i32_643 v543
  v544.toNat
def k0_dev20 (d0 : Dev nD) : Nat :=
  let c0_i32_666 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_665 : BitVec 32 := 1#32
  let v564 : BitVec 32 := Scalar.muli v5 c1_i32_665
  let v565 : BitVec 32 := Scalar.addi c0_i32_666 v564
  v565.toNat
def k0_dev21 (d0 : Dev nD) : Nat :=
  let c0_i32_735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_734 : BitVec 32 := 1#32
  let v613 : BitVec 32 := Scalar.muli v7 c1_i32_734
  let v614 : BitVec 32 := Scalar.addi c0_i32_735 v613
  v614.toNat
def k0_dev22 (d0 : Dev nD) : Nat :=
  let c0_i32_758 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_757 : BitVec 32 := 1#32
  let v634 : BitVec 32 := Scalar.muli v5 c1_i32_757
  let v635 : BitVec 32 := Scalar.addi c0_i32_758 v634
  v635.toNat
def k0_dev23 (d0 : Dev nD) : Nat :=
  let c0_i32_827 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_826 : BitVec 32 := 1#32
  let v683 : BitVec 32 := Scalar.muli v7 c1_i32_826
  let v684 : BitVec 32 := Scalar.addi c0_i32_827 v683
  v684.toNat
def k0_dev24 (d0 : Dev nD) : Nat :=
  let c0_i32_850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_849 : BitVec 32 := 1#32
  let v704 : BitVec 32 := Scalar.muli v5 c1_i32_849
  let v705 : BitVec 32 := Scalar.addi c0_i32_850 v704
  v705.toNat
def k0_dev25 (d0 : Dev nD) : Nat :=
  let c0_i32_919 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_918 : BitVec 32 := 1#32
  let v753 : BitVec 32 := Scalar.muli v7 c1_i32_918
  let v754 : BitVec 32 := Scalar.addi c0_i32_919 v753
  v754.toNat
def k0_dev26 (d0 : Dev nD) : Nat :=
  let c0_i32_942 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_941 : BitVec 32 := 1#32
  let v774 : BitVec 32 := Scalar.muli v5 c1_i32_941
  let v775 : BitVec 32 := Scalar.addi c0_i32_942 v774
  v775.toNat
abbrev stage0_0 : Fin 1 → Memref sig .tc .vmem S1536x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S3072x6144 : Shape := ⟨2, ![3072, 6144]⟩
abbrev S6144x3072 : Shape := ⟨2, ![6144, 3072]⟩
abbrev S3072x3072 : Shape := ⟨2, ![3072, 3072]⟩

abbrev nBuf : Space → Nat
  | .hbm => 3
  | .vmem => 0
  | .smem => 0
  | _ => 0

abbrev bufTy : (tb : Table) → Fin (tcTables nBuf tb) → BufTy
  | .hbm, ⟨0, _⟩ => ⟨S3072x6144, .f32⟩
  | .hbm, ⟨1, _⟩ => ⟨S6144x3072, .f32⟩
  | .hbm, ⟨2, _⟩ => ⟨S3072x3072, .f32⟩
  | _, _ => ⟨S3072x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
  The kernel's body again, as the algorithm reads: one definition for each kind of step (`start`, `stage`, `first`, `hop`, `last`), each over
  the direction of travel, the hop and the segment as variables; `body` is these steps in order.

  Direction `true` travels to the next device of the ring (`cc0_scratch0`, `cc0_scratch2`), direction `false` to the one before
  (`cc0_scratch1`, `cc0_scratch3`).
-/
module

public import proofs.«01_k».proof.Proof.Gen.KernelIdeal.Skeleton

@[expose] public section

set_option synthInstance.maxSize 4096

noncomputable section

namespace Cert.KernelIdeal.Ring

open Idealize.ShloMosaic Idealize.SL.Sem
open Cert.KernelIdeal.Gen

variable {F : FTy → Type} [FloatOps F]

/-! ## The memrefs -/

/-- A device's block of the first matrix, its block of the second, and its rows of the product. -/
abbrev aM : Memref sig .tc .hbm S3072x1536 .f32 := Memref.whole main_arg0
abbrev bM : Memref sig .tc .vmem S1536x3072 .f32 := Memref.whole cc0_stg0_0
abbrev oM : Memref sig .tc .vmem S768x3072 .f32 := Memref.whole cc0_stg1_0

/-- The travelling sums of one direction: three slots of four segments. -/
def bufM : Bool → Memref sig .tc .vmem S3x384x3072 .bf16
  | true => Memref.whole cc0_scratch0
  | false => Memref.whole cc0_scratch1
/-- The staged rows of the first matrix of one direction. -/
def stgM : Bool → Memref sig .tc .vmem S384x1536 .f32
  | true => Memref.whole cc0_scratch2
  | false => Memref.whole cc0_scratch3

theorem bufM_whole : ∀ d, (bufM d).IsWhole
  | true => Memref.isWhole_whole _
  | false => Memref.isWhole_whole _
theorem stgM_whole : ∀ d, (stgM d).IsWhole
  | true => Memref.isWhole_whole _
  | false => Memref.isWhole_whole _

/-! ## The rectangles -/

theorem slot_inb : ∀ (r : Fin 3) (j : Fin 4) (a), (![r.val, 96 * j.val, 0] : Fin 3 → Nat) a + S1x96x3072.size a ≤ S3x384x3072.size a := by decide
/-- Segment `j` of slot `r`. -/
abbrev slotR (r : Fin 3) (j : Fin 4) : Rect S3x384x3072 := Rect.unit (s := S3x384x3072) ![r.val, 96 * j.val, 0] S1x96x3072.size (slot_inb r j)
theorem slot_words : ∀ r j, (slotR r j).WholeWords (EltTy.packing .bf16) := by decide
theorem slot_packed : ∀ r j, (slotR r j).PackedRows (EltTy.packing .bf16) := by decide

theorem seg_inb : ∀ (j : Fin 4) (a), (![96 * j.val, 0] : Fin 2 → Nat) a + S96x1536.size a ≤ S384x1536.size a := by decide
/-- Segment `j` of the staged rows. -/
abbrev segR (j : Fin 4) : Rect S384x1536 := Rect.unit (s := S384x1536) ![96 * j.val, 0] S96x1536.size (seg_inb j)

/-- The first row of direction `d`'s segment `j` of the product. -/
def orow (d : Bool) (j : Fin 4) : Nat := (bif d then 0 else 384) + 96 * j.val
theorem out_inb : ∀ (d : Bool) (j : Fin 4) (a), (![orow d j, 0] : Fin 2 → Nat) a + S96x3072.size a ≤ S768x3072.size a := by decide
/-- Direction `d`'s segment `j` of the product. -/
abbrev outR (d : Bool) (j : Fin 4) : Rect S768x3072 := Rect.unit (s := S768x3072) ![orow d j, 0] S96x3072.size (out_inb d j)

/-- All of the second matrix's block. -/
abbrev bR : Rect S1536x3072 := Rect.unit (s := S1536x3072) ![0, 0] S1536x3072.size inb_S1536x3072_S1536x3072_0_0

/-- Segment `j` of slot `r` of direction `d`'s sums, as a transfer names it. -/
abbrev slotM (d : Bool) (r : Fin 3) (j : Fin 4) : Memref sig .tc .vmem S96x3072 .bf16 :=
  ((bufM d).slice (slotR r j) (fun _ => rfl)).squeeze S96x3072 squeezes_S1x96x3072_S96x3072

theorem slotM_wordExact (d : Bool) (r : Fin 3) (j : Fin 4) : (slotM d r j).view.WordExact :=
  ((bufM_whole d).wordExact_slice rfl _ (slot_words r j)).reshape _ _

/-- Where the rows staged for chunk `s` of direction `d` begin in the first matrix's block. -/
def aOff (c : Dev nD) : Bool → Fin 4 → Fin 2 → Nat
  | true => ![k0_off1 c, k0_off3 c 0#32, k0_off3 c 1#32, k0_off3 c 2#32]
  | false => ![k0_off2 c, k0_off4 c 0#32, k0_off4 c 1#32, k0_off4 c 2#32]
theorem aOff_inb : ∀ (c : Dev nD) (d : Bool) (s : Fin 4) (a), aOff c d s a + S384x1536.size a ≤ S3072x1536.size a := by decide +kernel
/-- The rows staged for chunk `s` of direction `d`. -/
def aSl (c : Dev nD) (d : Bool) (s : Fin 4) : Memref sig .tc .hbm S384x1536 .f32 :=
  aM.slice (Rect.unit (s := S3072x1536) (aOff c d s) S384x1536.size (aOff_inb c d s)) (fun _ => rfl)

/-! ## The semaphores -/

/-- The barrier semaphore. -/
abbrev barS : Sem sig := (SemArray.scalar (sig.barrier 0 rfl) : Sems sig S_).sem

/-- The semaphores of one direction's transfers: `false` the senders', `true` the receivers'. -/
def semArr : Bool → Bool → DmaSems sig S3x4
  | true, false => cc0_scratch5
  | true, true => cc0_scratch6
  | false, false => cc0_scratch7
  | false, true => cc0_scratch8
theorem sem_inb : ∀ (h : Fin 3) (j : Fin 4) (a), (![h.val, j.val] : Fin 2 → Nat) a + S1x1.size a ≤ S3x4.size a := by decide
/-- The semaphore of hop `h`, segment `j`. -/
def semM (d v : Bool) (h : Fin 3) (j : Fin 4) : DmaSem sig :=
  (((semArr d v).slice (Rect.unit (s := S3x4) ![h.val, j.val] S1x1.size (sem_inb h j))).squeeze S_ squeezes_S1x1_S_).sem

/-- The semaphore of direction `d`'s local copies. -/
def cpM : Bool → DmaSem sig
  | true => (((cc0_scratch4 : DmaSems sig S2).slice (Rect.unit (s := S2) ![0] S1.size inb_S2_S1_0)).squeeze S_ squeezes_S1_S_).sem
  | false => (((cc0_scratch4 : DmaSems sig S2).slice (Rect.unit (s := S2) ![1] S1.size inb_S2_S1_1)).squeeze S_ squeezes_S1_S_).sem

/-! ## The ring -/

set_option backward.proofsInPublic true in
/-- The device that direction `d` travels to. -/
def nb (d : Bool) (c : Dev nD) : Dev nD := ⟨(c.val + bif d then 1 else 3) % 4, Nat.mod_lt _ (by decide)⟩
/-- The device that direction `d` comes from. -/
abbrev fr (d : Bool) (c : Dev nD) : Dev nD := nb (!d) c

theorem nb_fr : ∀ (d : Bool) (c : Dev nD), nb d (fr d c) = c := by decide
theorem fr_nb : ∀ (d : Bool) (c : Dev nD), fr d (nb d c) = c := by decide

/-- The device that the kernel names for its transfer of hop `h`, segment `j`. -/
def devs (c : Dev nD) : Bool → Fin 3 → Fin 4 → Dev nD
  | true => ![![⟨k0_dev3 c, k0_dev3_lt c⟩, ⟨k0_dev5 c, k0_dev5_lt c⟩, ⟨k0_dev7 c, k0_dev7_lt c⟩, ⟨k0_dev9 c, k0_dev9_lt c⟩],
      ![⟨k0_dev11 c, k0_dev11_lt c⟩, ⟨k0_dev13 c, k0_dev13_lt c⟩, ⟨k0_dev15 c, k0_dev15_lt c⟩, ⟨k0_dev17 c, k0_dev17_lt c⟩],
      ![⟨k0_dev19 c, k0_dev19_lt c⟩, ⟨k0_dev21 c, k0_dev21_lt c⟩, ⟨k0_dev23 c, k0_dev23_lt c⟩, ⟨k0_dev25 c, k0_dev25_lt c⟩]]
  | false => ![![⟨k0_dev4 c, k0_dev4_lt c⟩, ⟨k0_dev6 c, k0_dev6_lt c⟩, ⟨k0_dev8 c, k0_dev8_lt c⟩, ⟨k0_dev10 c, k0_dev10_lt c⟩],
      ![⟨k0_dev12 c, k0_dev12_lt c⟩, ⟨k0_dev14 c, k0_dev14_lt c⟩, ⟨k0_dev16 c, k0_dev16_lt c⟩, ⟨k0_dev18 c, k0_dev18_lt c⟩],
      ![⟨k0_dev20 c, k0_dev20_lt c⟩, ⟨k0_dev22 c, k0_dev22_lt c⟩, ⟨k0_dev24 c, k0_dev24_lt c⟩, ⟨k0_dev26 c, k0_dev26_lt c⟩]]
theorem devs_eq : ∀ (c : Dev nD) (d : Bool) (h : Fin 3) (j : Fin 4), devs c d h j = nb d c := by decide +kernel
theorem dev1_eq : ∀ c : Dev nD, (⟨k0_dev1 c, k0_dev1_lt c⟩ : Dev nD) = nb false c := by decide +kernel
theorem dev2_eq : ∀ c : Dev nD, (⟨k0_dev2 c, k0_dev2_lt c⟩ : Dev nD) = nb true c := by decide +kernel

/-! ## The steps -/

/-- Programs of the body. -/
abbrev P (α : Type) : Type 1 := Prog (TpuEff nD τ sig (Elt F) Λ₀ .tc) α

/-- Read a segment of a slot. -/
def ldSlot (d : Bool) (r : Fin 3) (j : Fin 4) : P (F := F) (Vec F S1x96x3072 .bf16) :=
  Prog.lift (.load (bufM d) (slotR r j).toLoadRect (View.loadsAt_vmem h_S1x96x3072))
/-- Write a segment of a slot. -/
def stSlot (d : Bool) (r : Fin 3) (j : Fin 4) (w : FVec F S1x96x3072 .bf16) : P (F := F) PUnit :=
  Prog.lift (.store (bufM d) (slotR r j) w Finset.univ
    (View.stores_vmem h_S1x96x3072 ((bufM_whole d).storeExact_slice rfl _ (slot_packed r j)) (fun _ => rfl)) (.inl rfl))
/-- Read a segment of the staged rows. -/
def ldSeg (d : Bool) (j : Fin 4) : P (F := F) (Vec F S96x1536 .f32) :=
  Prog.lift (.load (stgM d) (segR j).toLoadRect (View.loadsAt_vmem h_S96x1536))
/-- Read the second matrix's block. -/
def ldB : P (F := F) (Vec F S1536x3072 .f32) := Prog.lift (.load bM bR.toLoadRect (View.loadsAt_vmem h_S1536x3072))
/-- Send a segment of slot `h` to the slot after it on device `t`. -/
def send (t : Dev nD) (d : Bool) (h : Fin 3) (j : Fin 4) : P (F := F) PUnit :=
  Prog.lift (.enqueueDma (slotM d h j) (.remote (Dev.tc t) (slotM d (h + 1) j) (.dma (semM d false h j))) (.dma (semM d true h j))
    (slotM_wordExact d h j) (slotM_wordExact d (h + 1) j) ⟨⟨rfl, Or.inl rfl⟩, trivial⟩)
/-- Wait until the segment sent at hop `h` has been read, then until the one that arrives at hop `h` has been written. -/
def wait (d : Bool) (h : Fin 3) (j : Fin 4) : P (F := F) PUnit := do
  Prog.lift (.waitDma2 (semM d false h j) (slotM d (h + 1) j) (slotM d h j) (slotM_wordExact d (h + 1) j) (slotM_wordExact d h j))
  Prog.lift (.waitDma2 (semM d true h j) (slotM d h j) (slotM d (h + 1) j) (slotM_wordExact d h j) (slotM_wordExact d (h + 1) j))
/-- Stage the rows of chunk `s`. -/
def stage (c : Dev nD) (d : Bool) (s : Fin 4) : P (F := F) PUnit := do
  Prog.lift (.enqueueDma (aSl c d s) (.here (stgM d)) (.dma (cpM d)) (View.wordExact_bits rfl) (stgM_whole d).wordExact ⟨Or.inl rfl, trivial⟩)
  Prog.lift (.waitDma2 (cpM d) (aSl c d s) (stgM d) (View.wordExact_bits rfl) (stgM_whole d).wordExact)

/-- The handshake with both neighbours. -/
def start (c : Dev nD) : P (F := F) PUnit := do
  semSignalWord (⟨k0_dev1 c, k0_dev1_lt c⟩ : Dev nD) barS 1#32
  semSignalWord (⟨k0_dev2 c, k0_dev2_lt c⟩ : Dev nD) barS 1#32
  semWaitWord barS 2#32
/-- The first sum of a segment, the first chunk's product, and its transfer; `mid` runs before the product, -/
def firstD (c : Dev nD) (d : Bool) (j : Fin 4) : P (F := F) PUnit := do
  let a ← ldSeg d j
  let b ← ldB
  let _ ← ldSlot d 0 j
  stSlot d 0 j (k0_pay1 a b)
  send (devs c d 0 j) d 0 j
/-- A hop's segment: what has arrived in both directions, this device's products added to it, and sent on. -/
def hopSeg (c : Dev nD) (h : Fin 3) (j : Fin 4) : P (F := F) PUnit := do
  let a ← ldSeg true j
  let b ← ldB
  wait true h j
  let v ← ldSlot true (h + 1) j
  let _ ← ldSlot true (h + 1) j
  stSlot true (h + 1) j (k0_pay10 (k0_pay9 a b) v)
  wait false h j
  send (devs c true (h + 1) j) true (h + 1) j
  let a ← ldSeg false j
  let b ← ldB
  let v ← ldSlot false (h + 1) j
  let _ ← ldSlot false (h + 1) j
  stSlot false (h + 1) j (k0_pay10 (k0_pay9 a b) v)
  send (devs c false (h + 1) j) false (h + 1) j
/-- The last hop's segment of one direction: what has arrived and this device's product are its rows of the result. -/
def lastD (d : Bool) (j : Fin 4) : P (F := F) PUnit := do
  let a ← ldSeg d j
  let b ← ldB
  wait d 2 j
  let v ← ldSlot d 0 j
  let _ ← Prog.lift (.load oM (outR d j).toLoadRect (View.loadsAt_vmem h_S96x3072))
  Prog.lift (.store oM (outR d j) (k0_pay46 (k0_pay45 a b) v) Finset.univ (View.stores_vmem_bits_univ h_S96x3072 rfl) (.inl rfl))
/-- A hop: both directions' rows staged, then its segments. -/
def hop (c : Dev nD) (h : Fin 3) (s : Fin 4) : P (F := F) PUnit := do
  stage c true s
  stage c false s
  hopSeg c h 0
  hopSeg c h 1
  hopSeg c h 2
  hopSeg c h 3
/-- The last hop. -/
def last (c : Dev nD) : P (F := F) PUnit := do
  stage c true 3
  stage c false 3
  lastD true 0
  lastD false 0
  lastD true 1
  lastD false 1
  lastD true 2
  lastD false 2
  lastD true 3
  lastD false 3
/-- The body. -/
def body : P (F := F) PUnit := do
  let c ← Prog.lift .deviceId
  start c
  stage c true 0
  firstD c true 0
  stage c false 0
  firstD c false 0
  firstD c true 1
  firstD c false 1
  firstD c true 2
  firstD c false 2
  firstD c true 3
  firstD c false 3
  hop c 0 1
  hop c 1 2
  last c

end Cert.KernelIdeal.Ring

end
-- ==== Proof.Protocol.lean ====
/-
  The protocol of the ring: what the devices hand one another, through which semaphore, and in which order they may wait.

  Every semaphore cell is used for one round. Both neighbours of a device signal its barrier: the device that direction `d` travels to hands over,
  with the signal, slots 1 and 2 of its own buffer of direction `d`. A transfer's send cell gives the sender the slot it read from; its
  receive cell gives the receiver the slot written, with the contents sent. The transfers of hop 1 moreover hand over slot 0 of the OTHER
  direction's buffer on the sending device, which the transfers of hop 2 write to: that is why a device waits for both directions' arrivals of a
  segment before it sends the segment on.
-/
module

public import proofs.«01_k».proof.Proof.Prog
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option synthInstance.maxSize 4096

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's copy of the rounds' ghost state. -/
def ER : Emb UB (MT nD τ sig Unit (Elt F) ℕ UU ℕ) := (Emb.inl : Emb UB (UB × Counters)).trans embR
abbrev EC : UEmb Counters (MT nD τ sig Unit (Elt F) ℕ UU ℕ) := countersEmb

omit [FloatOps F] in
instance ER_landsIn : (ER : Emb UB 𝕄).LandsIn (upEmb : UEmb _ 𝕄) := by unfold ER embR; infer_instance

/-! ## The cells -/

/-- A transfer: its direction, whether the cell is the receiver's, its hop and its segment. -/
abbrev X : Type := Bool × Bool × Fin 3 × Fin 4
/-- A cell of a device: its barrier, or a transfer's. -/
abbrev CK : Type := Option X

/-- The semaphore of a cell. -/
abbrev csem : CK → SemLoc sig
  | none => .reg barS
  | some (d, v, h, j) => .dma (semM d v h j)

abbrev kcell (ck : Dev nD × CK) : GSem nD τ sig := ((ck.1 : Thread nD τ), csem ck.2)
abbrev barCell (c : Dev nD) : GSem nD τ sig := kcell (c, none)
abbrev sndCell (c : Dev nD) (d : Bool) (h : Fin 3) (j : Fin 4) : GSem nD τ sig := kcell (c, some (d, false, h, j))
abbrev rcvCell (c : Dev nD) (d : Bool) (h : Fin 3) (j : Fin 4) : GSem nD τ sig := kcell (c, some (d, true, h, j))

/-- Which cell a semaphore is. -/
def kind : SemLoc sig → Option CK
  | .reg s => if s = barS then some none else none
  | .dma q =>
    if q.val < 4 then none
    else some (some (decide (q.val - 4 < 24), decide ((q.val - 4) / 12 % 2 = 1),
      ⟨(q.val - 4) / 4 % 3, Nat.mod_lt _ (by decide)⟩, ⟨(q.val - 4) % 4, Nat.mod_lt _ (by decide)⟩))

theorem kind_csem : ∀ k : CK, kind (csem k) = some k := by decide +kernel
theorem csem_inj {k k' : CK} (h : csem k = csem k') : k = k' := Option.some.inj ((kind_csem k).symm.trans ((congrArg kind h).trans (kind_csem k')))
theorem kcell_inj : Function.Injective (kcell : Dev nD × CK → GSem nD τ sig) := fun ⟨c, k⟩ ⟨c', k'⟩ h => by
  have h1 : c = c' := congrArg (fun g : GSem nD τ sig => g.1.1) h
  have h2 : k = k' := csem_inj (congrArg (fun g : GSem nD τ sig => g.2) h)
  rw [h1, h2]

/-- What a transfer of one segment adds to its cells. -/
abbrev N : ℕ := (slotM true 0 0).view.dmaCredit
theorem N_pos : 0 < N := View.dmaCredit_pos _ (by decide)
theorem slot_credit (d : Bool) (r : Fin 3) (j : Fin 4) : (slotM d r j).view.dmaCredit = N := rfl

/-! ## Contents

`A` is what the devices' blocks of the first matrix hold, `B` the second's. -/

variable (A : Dev nD → (main_arg0 : Ref sig .tc).ty.Contents (Elt F)) (B : Dev nD → Vec F S1536x3072 .f32)

/-- The rows of the first matrix that device `c` stages for chunk `s` of direction `d`. -/
def arow (c : Dev nD) (d : Bool) (s : Fin 4) : Vec F S384x1536 .f32 := (aSl c d s).view.read (Elt F) (A c)
/-- Segment `j` of staged rows. -/
def segOf (a : Vec F S384x1536 .f32) (j : Fin 4) : Vec F S96x1536 .f32 := fun x => a ((segR j).emb x)
/-- Segment `j` of the rows of chunk `s`. -/
abbrev aseg (c : Dev nD) (d : Bool) (s : Fin 4) (j : Fin 4) : Vec F S96x1536 .f32 := segOf (arow A c d s) j

/-- A segment without its leading axis of length one, and with it. -/
def sq (v : Vec F S1x96x3072 .bf16) : Vec F S96x3072 .bf16 := fun x => v (Shape.reshapeEquiv squeezes_S1x96x3072_S96x3072.numel_eq x)
def usq (w : Vec F S96x3072 .bf16) : Vec F S1x96x3072 .bf16 := fun x => w ((Shape.reshapeEquiv squeezes_S1x96x3072_S96x3072.numel_eq).symm x)

omit [FloatOps F] in
theorem usq_sq (v : Vec F S1x96x3072 .bf16) : usq (sq v) = v := funext fun x => congrArg v (Equiv.apply_symm_apply _ _)

/-- The running sum that device `c` sends at hop `h` in segment `j` of direction `d`. -/
def Wv (d : Bool) (j : Fin 4) : ℕ → Dev nD → Vec F S96x3072 .bf16
  | 0, c => sq (k0_pay1 (aseg A c d 0 j) (B c))
  | h + 1, c => sq (k0_pay10 (k0_pay9 (aseg A c d (Fin.ofNat 4 (h + 1)) j) (B c)) (usq (Wv d j h (fr d c))))

/-- Segment `j` of direction `d` of device `c`'s rows of the product. -/
def outv (c : Dev nD) (d : Bool) (j : Fin 4) : Vec F S96x3072 .f32 :=
  k0_pay46 (k0_pay45 (aseg A c d 3 j) (B c)) (usq (Wv A B d j 2 (fr d c)))

/-! ## Slots -/

/-- Segment `j` of slot `r` of direction `d` on device `c`, at any contents; -/
def slotE (d : Bool) (r : Fin 3) (j : Fin 4) (c : Dev nD) : sProp 𝕄 :=
  iprop(∃ f, (slotM d r j).view.loc (c : Thread nD τ) ↦[(slotM d r j).view.set]{fullShare} f)
/-- and holding `w`. -/
def slotC (d : Bool) (r : Fin 3) (j : Fin 4) (c : Dev nD) (w : Vec F S96x3072 .bf16) : sProp 𝕄 :=
  iprop(∃ f, ⌜(slotM d r j).view.read (Elt F) f = w⌝ ∗ (slotM d r j).view.loc (c : Thread nD τ) ↦[(slotM d r j).view.set]{fullShare} f)

omit [FloatOps F] in
instance slotE_storable (d : Bool) (r : Fin 3) (j : Fin 4) (c : Dev nD) : BI.Storable (upEmb : UEmb _ 𝕄) (slotE d r j c) := by
  unfold slotE; infer_instance
omit [FloatOps F] in
instance slotC_storable (d : Bool) (r : Fin 3) (j : Fin 4) (c : Dev nD) (w : Vec F S96x3072 .bf16) :
    BI.Storable (upEmb : UEmb _ 𝕄) (slotC d r j c w) := by
  unfold slotC; infer_instance

omit [FloatOps F] in
theorem slotC_E (d : Bool) (r : Fin 3) (j : Fin 4) (c : Dev nD) (w : Vec F S96x3072 .bf16) : slotC d r j c w ⊢ (slotE d r j c : sProp 𝕄) := by
  unfold slotC slotE; iintro ⟨%f, -, H⟩; iexists f; iexact H

/-- What a transfer of hop `h`, segment `j`, from device `c` hands over beside the slot it writes. -/
def Ex (h : Fin 3) (d : Bool) (j : Fin 4) (c : Dev nD) : sProp 𝕄 := if h = 1 then slotE (!d) 0 j c else iprop(emp)

omit [FloatOps F] in
instance Ex_storable (h : Fin 3) (d : Bool) (j : Fin 4) (c : Dev nD) : BI.Storable (upEmb : UEmb _ 𝕄) (Ex h d j c) := by
  unfold Ex; split <;> infer_instance

/-! ## The schedule -/

/-- What the device that direction `d` travels to hands over with its signal. -/
def barPay (c : Dev nD) (d : Bool) : sProp 𝕄 :=
  bigSep Finset.univ fun j : Fin 4 => iprop(slotE d 1 j (nb d c) ∗ slotE d 2 j (nb d c))
/-- What a transfer gives back to its sender -/
def sndPay (c : Dev nD) (d : Bool) (h : Fin 3) (j : Fin 4) : sProp 𝕄 := slotE d h j c
/-- and gives its receiver. -/
def rcvPay (c : Dev nD) (d : Bool) (h : Fin 3) (j : Fin 4) : sProp 𝕄 :=
  iprop(slotC d (h + 1) j c (Wv A B d j h.val (fr d c)) ∗ Ex h d j (fr d c))

instance barPay_storable (c : Dev nD) (d : Bool) : BI.Storable (upEmb : UEmb _ 𝕄) (barPay (F := F) c d) := by unfold barPay; infer_instance
instance sndPay_storable (c : Dev nD) (d : Bool) (h : Fin 3) (j : Fin 4) : BI.Storable (upEmb : UEmb _ 𝕄) (sndPay (F := F) c d h j) := by
  unfold sndPay; infer_instance
instance rcvPay_storable (c : Dev nD) (d : Bool) (h : Fin 3) (j : Fin 4) : BI.Storable (upEmb : UEmb _ 𝕄) (rcvPay A B c d h j) := by
  unfold rcvPay; infer_instance

/-- The duties of a cell's one round, -/
def dutiesK : Option CK → Finset Bool
  | none => ∅
  | some none => Finset.univ
  | some (some _) => {false}
/-- what each adds, -/
def amountK : Option CK → ℕ
  | some none => 1
  | _ => N
/-- and what it hands over. -/
def payK (c : Dev nD) (d : Bool) : Option CK → sProp 𝕄
  | none => iprop(emp)
  | some none => barPay c d
  | some (some (e, false, h, j)) => sndPay c e h j
  | some (some (e, true, h, j)) => rcvPay A B c e h j

instance payK_storable (c : Dev nD) (d : Bool) : ∀ k, BI.Storable (upEmb : UEmb _ 𝕄) (payK A B c d k)
  | none => by unfold payK; infer_instance
  | some none => by unfold payK; infer_instance
  | some (some (_, false, _, _)) => by unfold payK; infer_instance
  | some (some (_, true, _, _)) => by unfold payK; infer_instance

/-- The schedule of every cell. -/
def ringRd : Rounds.Schedule (GSem nD τ sig) Bool 𝕄 where
  duties g r := if r = 0 ∧ g.1.2 = .tc then dutiesK (kind g.2) else ∅
  unitless _ := False
  amount g _ _ := amountK (kind g.2)
  payload g _ d := payK A B g.1.1 d (kind g.2)
  amount_pos g _ _ _ := by
    unfold amountK
    split
    · exact Nat.one_pos
    · exact N_pos

instance ringRd_payload_storable (g : GSem nD τ sig) (r : ℕ) (d : Bool) :
    BI.Storable (upEmb : UEmb _ 𝕄) ((ringRd A B).payload g r d) := payK_storable A B g.1.1 d (kind g.2)

section Sched
variable (c : Dev nD) (d : Bool) (h : Fin 3) (j : Fin 4)

theorem duties_cell (k : CK) : (ringRd A B).duties (kcell (c, k)) 0 = dutiesK (some k) := by
  dsimp only [ringRd]; rw [if_pos ⟨rfl, rfl⟩, kind_csem]
theorem duties_bar : (ringRd A B).duties (barCell c) 0 = Finset.univ := duties_cell A B c none
theorem duties_xfer (x : X) : (ringRd A B).duties (kcell (c, some x)) 0 = {false} := duties_cell A B c (some x)
theorem duties_later (g : GSem nD τ sig) : ∀ r, 1 ≤ r → (ringRd A B).duties g r = ∅ :=
  fun r hr => by dsimp only [ringRd]; exact if_neg fun h => by omega

theorem amount_bar (e : Bool) : (ringRd A B).amount (barCell c) 0 e = 1 := by dsimp only [ringRd]; rw [kind_csem]; rfl
theorem amount_xfer (x : X) (e : Bool) : (ringRd A B).amount (kcell (c, some x)) 0 e = N := by dsimp only [ringRd]; rw [kind_csem]; rfl

theorem expect_bar : (ringRd A B).expect (barCell c) 0 = 2 := by
  unfold Schedule.expect Schedule.amountOf
  rw [duties_bar, Finset.sum_congr rfl fun e _ => amount_bar A B c e, Finset.sum_const, Finset.card_univ, Fintype.card_bool, smul_eq_mul]
theorem expect_xfer (x : X) : (ringRd A B).expect (kcell (c, some x)) 0 = N := by
  unfold Schedule.expect Schedule.amountOf; rw [duties_xfer, Finset.sum_singleton, amount_xfer]

theorem payload_bar (e : Bool) : (ringRd A B).payload (barCell c) 0 e = barPay c e := by dsimp only [ringRd]; rw [kind_csem]; rfl
theorem payload_snd (e : Bool) : (ringRd A B).payload (sndCell c d h j) 0 e = sndPay c d h j := by dsimp only [ringRd]; rw [kind_csem]; rfl
theorem payload_rcv (e : Bool) : (ringRd A B).payload (rcvCell c d h j) 0 e = rcvPay A B c d h j := by dsimp only [ringRd]; rw [kind_csem]; rfl

theorem rest_bar : bigSep ((ringRd A B).duties (barCell c) 0 \ ∅) (fun e => (ringRd A B).payload (barCell c) 0 e)
    = iprop(barPay c true ∗ barPay c false) := by
  rw [Finset.sdiff_empty, duties_bar, bigSep_univ_eq_bigSepL [true, false] (by decide) (by decide), bigSepL_cons_cons, bigSepL_singleton,
    payload_bar, payload_bar]
  rfl
theorem rest_snd : bigSep ((ringRd A B).duties (sndCell c d h j) 0 \ ∅) (fun e => (ringRd A B).payload (sndCell c d h j) 0 e) = sndPay c d h j := by
  rw [Finset.sdiff_empty, duties_xfer, bigSep_singleton, payload_snd]
theorem rest_rcv : bigSep ((ringRd A B).duties (rcvCell c d h j) 0 \ ∅) (fun e => (ringRd A B).payload (rcvCell c d h j) 0 e) = rcvPay A B c d h j := by
  rw [Finset.sdiff_empty, duties_xfer, bigSep_singleton, payload_rcv]

end Sched

/-! ## What a device owes, and the order of waits -/

/-- A transfer by its direction, hop and segment, and its place in the order in which a device issues its 24. -/
abbrev Y : Type := Bool × Fin 3 × Fin 4
def ord (y : Y) : ℕ := 8 * y.2.1.val + 2 * y.2.2.val + bif y.1 then 0 else 1

/-- The credit of one transfer of device `c` on its receiver's cell. -/
def rcvTally (c : Dev nD) (y : Y) : CellTallies nD τ sig Unit := tallyAt (rcvCell (nb y.1 c) y.1 y.2.1 y.2.2) () N

/-- The transfers not among the first `k`. -/
def rem (k : ℕ) : Finset Y := Finset.univ.filter fun y => k ≤ ord y
/-- What device `c` owes after its first `k` transfers. -/
def Ow (c : Dev nD) (k : ℕ) : CellTallies nD τ sig Unit := ∑ y ∈ rem k, rcvTally c y
/-- What it owes at launch: every transfer, and a signal to each neighbour. -/
def O₁ (c : Dev nD) : CellTallies nD τ sig Unit := Ow c 0 + tallyAt (barCell (nb true c)) () 1
def O₀ (c : Dev nD) : CellTallies nD τ sig Unit := O₁ c + tallyAt (barCell (nb false c)) () 1

theorem rem_step : ∀ y : Y, rem (ord y) = insert y (rem (ord y + 1)) := by decide +kernel
theorem not_mem_rem (y : Y) : y ∉ rem (ord y + 1) := fun h => by have := (Finset.mem_filter.mp h).2; omega
theorem Ow_step (c : Dev nD) (y : Y) : Ow c (ord y) = Ow c (ord y + 1) + rcvTally c y := by
  unfold Ow; rw [rem_step y, Finset.sum_insert (not_mem_rem y), add_comm]
theorem Ow_end (c : Dev nD) : Ow c 24 = 0 := by
  unfold Ow; rw [show rem 24 = ∅ by decide +kernel]; exact Finset.sum_empty

/-- The level of a cell: the barrier's 1, a receive cell's 2 and its hop, every other's 0. -/
def lvK : Option CK → ℕ
  | some none => 1
  | some (some (_, true, h, _)) => 2 + h.val
  | _ => 0
def lv (g : GSem nD τ sig) (_ : Unit) : ℕ := lvK (kind g.2)
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Everything in `O` is owed to cells of levels above `b`. -/
def Above (b : ℕ) (O : CellTallies nD τ sig Unit) : Prop := ∀ (g : GSem nD τ sig) (u : Unit), 0 < O g u → g.1.2 = .tc ∧ b < lv g u

theorem Above.add {b : ℕ} {O O' : CellTallies nD τ sig Unit} (h : Above b O) (h' : Above b O') : Above b (O + O') := fun g u hg => by
  rw [Pi.add_apply, Finsupp.add_apply] at hg
  rcases Nat.eq_zero_or_pos (O g u) with h0 | h0
  · exact h' g u (by omega)
  · exact h g u h0
theorem Above.zero (b : ℕ) : Above b 0 := fun g u hg => absurd hg (Nat.lt_irrefl 0)
theorem above_tally {b : ℕ} (c : Dev nD) (k : CK) (n : ℕ) (h : b < lvK (some k)) : Above b (tallyAt (kcell (c, k)) () n) := fun g u hg => by
  rw [tallyAt_apply] at hg
  by_cases hc : g = kcell (c, k) ∧ u = ()
  · rw [hc.1]; exact ⟨rfl, by unfold lv; rw [kind_csem]; exact h⟩
  · rw [if_neg hc] at hg; exact absurd hg (Nat.lt_irrefl 0)
theorem above_sum {b : ℕ} (c : Dev nD) (S : Finset Y) (h : ∀ y ∈ S, b < 2 + y.2.1.val) : Above b (∑ y ∈ S, rcvTally c y) := by
  classical
  induction S using Finset.induction_on with
  | empty => rw [Finset.sum_empty]; exact Above.zero b
  | insert y S hy ih =>
    rw [Finset.sum_insert hy]
    exact (above_tally _ _ _ (h y (Finset.mem_insert_self _ _))).add (ih fun z hz => h z (Finset.mem_insert_of_mem hz))
/-- Once the transfers of hop `h` and before are issued, what is owed lies above the receive cells of hop `h`; -/
theorem above_Ow (c : Dev nD) (h k : ℕ) (hk : 8 * (h + 1) ≤ k) : Above (2 + h) (Ow c k) := above_sum c _ fun y hy => by
  have h1 := (Finset.mem_filter.mp hy).2
  have h2 := y.2.2.isLt
  unfold ord at h1
  have h3 : (bif y.1 then 0 else 1) ≤ 1 := by cases y.1 <;> decide
  omega
/-- and it always lies above the barrier cells. -/
theorem above_Ow_one (c : Dev nD) (k : ℕ) : Above 1 (Ow c k) := above_sum c _ fun y _ => by omega
theorem Above.mono {b b' : ℕ} (hb : b ≤ b') {O : CellTallies nD τ sig Unit} (h : Above b' O) : Above b O :=
  fun g u hg => ⟨(h g u hg).1, lt_of_le_of_lt hb (h g u hg).2⟩
theorem above_O₀ (c : Dev nD) : Above 0 (O₀ c) :=
  (((above_Ow_one c 0).mono (Nat.zero_le 1)).add (above_tally _ none 1 (by decide))).add (above_tally _ none 1 (by decide))

omit [FloatOps F] in
/-- A device may wait on a cell at or below a level that all it owes is above. -/
theorem mayWait (c : Dev nD) (sm : SemLoc sig) (b : ℕ) (O : CellTallies nD τ sig Unit) (hs : lvK (kind sm) ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-! ## What every device may use of every cell -/

/-- The invariants of all the cells under the names `K`, that each is at its round, and the levels. -/
def ctx (K : Dev nD × CK → ℕ) : sProp 𝕄 :=
  iprop((bigSep Finset.univ fun ck : Dev nD × CK => iprop(cellInv ER (ringRd A B) (K ck) (kcell ck) ∗ reached ER (kcell ck) 0)) ∗ levAts L lv)

instance ctx_persistent (K : Dev nD × CK → ℕ) : BI.Persistent (ctx A B K) := by unfold ctx; infer_instance

theorem ctx_inv (K : Dev nD × CK → ℕ) (ck : Dev nD × CK) :
    ctx A B K ⊢ iprop(cellInv ER (ringRd A B) (K ck) (kcell ck) ∗ reached ER (kcell ck) 0) := by
  unfold ctx
  exact (BI.sep_and.trans BI.and_elimL).trans (BI.bigSep_elim (Finset.mem_univ ck))
theorem ctx_lev (K : Dev nD × CK → ℕ) : ctx A B K ⊢ (levAts L lv : sProp 𝕄) := by
  unfold ctx; iintro ⟨-, H⟩; iexact H

end Cert.KernelIdeal.Ring

end
-- ==== Proof.Atoms.lean ====
/-
  What each of the body's operations does to the resources of the protocol: reading and writing a segment, staging rows, sending a segment,
  waiting for one.
-/
module

public import proofs.«01_k».proof.Proof.Protocol

@[expose] public section

set_option synthInstance.maxSize 4096

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → (main_arg0 : Ref sig .tc).ty.Contents (Elt F)) (B : Dev nD → Vec F S1536x3072 .f32)

abbrev 𝒱₀ : Variants := Variants.none

/-- The weakest precondition of a program on device `c`. -/
abbrev wpB (c : Dev nD) {α : Type} (p : P (F := F) α) (Q : α → sProp 𝕄) : sProp 𝕄 :=
  wp frame (wpE (defs₀ (F := F)) 𝒱₀ (c : Thread nD τ) none) Set.univ p Q

/-! ## Reading and writing -/

omit [FloatOps F] in
theorem slotE_C (d : Bool) (r : Fin 3) (j : Fin 4) (c : Dev nD) : slotE d r j c ⊢ (iprop(∃ w, slotC d r j c w) : sProp 𝕄) := by
  unfold slotC slotE; iintro ⟨%f, H⟩; iexists _; iexists f; isplitr
  · ipureintro; rfl
  iexact H

omit [FloatOps F] in
theorem slotM_set (d : Bool) (r : Fin 3) (j : Fin 4) : (slotM d r j).view.set = ((bufM d).access (slotR r j)).set := View.set_reshape _ _

/-- Reading a segment of a slot. -/
theorem ld_slot (c : Dev nD) (d : Bool) (r : Fin 3) (j : Fin 4) (w : Vec F S96x3072 .bf16) (Q : Vec F S1x96x3072 .bf16 → sProp 𝕄) :
    slotC d r j c w ⊢ iprop((slotC d r j c w -∗ Q (usq w)) -∗ wpB c (ldSlot d r j) Q) := by
  unfold slotC ldSlot
  iintro ⟨%f, %hf, H⟩ Hk
  iapply (wp_load_rect 𝒱₀ (c : Thread nD τ) none Set.univ (m := bufM d) (r := slotR r j) (S := (slotM d r j).view.set) (f := f)
    (by rw [slotM_set])) $$ H
  iintro H
  rw [wp_ret]; imodintro
  have hv : ((bufM d).access (slotR r j)).read (Elt F) f = usq w := by
    rw [← hf]; exact (usq_sq _).symm
  rw [hv]
  iapply Hk
  iexists f; isplitr
  · ipureintro; exact hf
  iexact H

/-- Writing a segment of a slot. -/
theorem st_slot (c : Dev nD) (d : Bool) (r : Fin 3) (j : Fin 4) (w : Vec F S1x96x3072 .bf16) (Q : PUnit → sProp 𝕄) :
    slotE d r j c ⊢ iprop((slotC d r j c (sq w) -∗ Q ⟨⟩) -∗ wpB c (stSlot d r j w) Q) := by
  unfold slotC slotE stSlot
  iintro ⟨%f, H⟩ Hk
  iapply (wp_store 𝒱₀ (c : Thread nD τ) none Set.univ (m := bufM d) (r := slotR r j) (Mk := Finset.univ) (S := (slotM d r j).view.set) (f := f)
    (by rw [slotM_set]; exact subset_rfl)) $$ H
  iintro H
  rw [wp_ret]; imodintro
  iapply Hk
  iexists _; isplitr
  rotate_left
  · iexact H
  ipureintro
  funext x
  exact View.read_write_of_mem (v := (bufM d).access (slotR r j)) f w (Finset.mem_univ (Shape.reshapeEquiv squeezes_S1x96x3072_S96x3072.numel_eq x))

/-- Direction `d`'s staged rows, holding `a`. -/
def stgP (c : Dev nD) (d : Bool) (a : Vec F S384x1536 .f32) : sProp 𝕄 :=
  iprop(∃ f, ⌜(stgM d).view.read (Elt F) f = a⌝ ∗ (stgM d).view.loc (c : Thread nD τ) ↦[(stgM d).view.set]{fullShare} f)

/-- Reading a segment of the staged rows. -/
theorem ld_seg (c : Dev nD) (d : Bool) (j : Fin 4) (a : Vec F S384x1536 .f32) (Q : Vec F S96x1536 .f32 → sProp 𝕄) :
    stgP c d a ⊢ iprop((stgP c d a -∗ Q (segOf a j)) -∗ wpB c (ldSeg d j) Q) := by
  unfold stgP ldSeg
  iintro ⟨%f, %hf, H⟩ Hk
  iapply (wp_load_rect 𝒱₀ (c : Thread nD τ) none Set.univ (m := stgM d) (r := segR j) (S := (stgM d).view.set) (f := f)
    (by rw [View.set_slice]; exact View.setOn_subset_set _ _)) $$ H
  iintro H
  rw [wp_ret]; imodintro
  have hv : ((stgM d).access (segR j)).read (Elt F) f = segOf a j := by rw [← hf]; rfl
  rw [hv]
  iapply Hk
  iexists f; isplitr
  · ipureintro; exact hf
  iexact H

/-- The second matrix's block. -/
def bP (c : Dev nD) : sProp 𝕄 := iprop(((c : Thread nD τ).loc cc0_stg0_0) ↦{fullShare} B c)

omit [FloatOps F] in
theorem hz : (![0, 0] : Fin 2 → Nat) = fun _ => 0 := funext fun a => by fin_cases a <;> rfl

/-- Reading it. -/
theorem ld_B (c : Dev nD) (Q : Vec F S1536x3072 .f32 → sProp 𝕄) :
    bP B c ⊢ iprop((bP B c -∗ Q (B c)) -∗ wpB c ldB Q) := by
  unfold bP ldB
  iintro H Hk
  iapply (wp_load 𝒱₀ (c : Thread nD τ) none Set.univ (m := bM) (Finset.subset_univ _)) $$ H
  iintro H
  rw [wp_ret]; imodintro
  have hv : (bM : Memref sig .tc .vmem S1536x3072 .f32).view.readAt (Elt F) bR.toLoadRect (B c) = B c :=
    Memref.readAt_unit_zero (Elt F) cc0_stg0_0 hz _ (B c)
  rw [hv]
  iapply Hk $$ H

/-! ## Staging -/

/-- The first matrix's block. -/
def aP (c : Dev nD) : sProp 𝕄 := iprop(((c : Thread nD τ).loc main_arg0) ↦{fullShare} A c)

/-- Device `c` owes what it owes after its first `k` transfers. -/
def owed (c : Dev nD) (k : ℕ) : sProp 𝕄 := iprop(∃ W, owes (c : Thread nD τ) (Ow c k) W)

theorem cp_kind : ∀ d, kind (.dma (cpM d)) = none := by decide

/-- Staging chunk `s`. -/
theorem st_stage (K : Dev nD × CK → ℕ) (c : Dev nD) (d : Bool) (s : Fin 4) (k : ℕ) (a : Vec F S384x1536 .f32) (Q : PUnit → sProp 𝕄) :
    iprop(ctx A B K ∗ aP A c ∗ stgP c d a ∗ semVal ((c : Thread nD τ), SemLoc.dma (cpM d)) 0 ∗ owed c k)
      ⊢ iprop(((aP A c ∗ stgP c d (arow A c d s) ∗ semVal ((c : Thread nD τ), SemLoc.dma (cpM d)) 0 ∗ owed c k) -∗ Q ⟨⟩)
        -∗ wpB c (stage c d s) Q) := by
  unfold aP stgP owed stage
  simp only [Prog.lift, Prog.bind_op, Prog.bind_ret]
  iintro ⟨#Hc, HA, ⟨%f, -, HS⟩, Hv, ⟨%W, HO⟩⟩ Hk
  icases (pointsTo_split_subset (Finset.subset_univ (aSl c d s).view.set)).1 $$ HA with ⟨HA, HR⟩
  iapply (Transfers.wp_dmaLocal EC 𝒱₀ (c : Thread nD τ) none (src := aSl c d s) (via := .same) (dst := stgM d) (sm := .dma (cpM d)) ()
    (stgM d).view.dmaCredit rfl (View.dmaCredit_pos _ (by decide)) subset_rfl) $$ [HA HS Hv]
  · isplitl [HA]; · iexact HA
    isplitl [HS]; · iexact HS
    iexact Hv
  iintro HF
  iapply (Transfers.wp_waitLocalO EC 𝒱₀ (c : Thread nD τ) none () rfl (O := Ow c k) (W := W)) $$ [HF HO]
  · isplitl [HF]; · iexact HF
    isplitl [HO]; · iexact HO
    iapply (mayWait c (.dma (cpM d)) 1 (Ow c k) (by rw [cp_kind]; exact Nat.zero_le 1) (above_Ow_one c k))
    iapply (ctx_lev A B K) $$ Hc
  iintro ⟨⟨HS, HA⟩, Hv, HO⟩
  rw [wp_ret]; imodintro
  iapply Hk
  isplitl [HA HR]
  · iapply (pointsTo_split_subset (Finset.subset_univ (aSl c d s).view.set)).2
    isplitl [HA]; · iexact HA
    iexact HR
  isplitl [HS]
  · iexists _; isplitr
    rotate_left
    · iexact HS
    ipureintro
    funext x
    exact View.read_write_of_mem (v := (stgM d).view) f _ (Finset.mem_univ x)
  isplitl [Hv]; · iexact Hv
  iexists _; iexact HO

/-! ## Sending and waiting -/

/-- What a device needs to issue a transfer, beside the slots; -/
def sndTok (c : Dev nD) (d : Bool) (h : Fin 3) (j : Fin 4) : sProp 𝕄 :=
  iprop(dutyTok ER (sndCell c d h j) 0 false ∗ dutyTok ER (rcvCell (nb d c) d h j) 0 false)
/-- to wait on the cells of a hop's segment, beside the credit that issuing gives; -/
def wtTok (c : Dev nD) (d : Bool) (h : Fin 3) (j : Fin 4) : sProp 𝕄 :=
  iprop(atPos ER (sndCell c d h j) 0 ∅ 0 ∗ atPos ER (rcvCell c d h j) 0 ∅ 0 ∗ cred (tallyAt (rcvCell c d h j) () N))
/-- and what waiting leaves. -/
def done (c : Dev nD) (d : Bool) (h : Fin 3) (j : Fin 4) : sProp 𝕄 :=
  iprop(semVal (sndCell c d h j) 0 ∗ semVal (rcvCell c d h j) 0)

/-- Sending a segment: hop `h`'s transfer takes the slot read, the slot written and what else it hands over. -/
theorem st_send (K : Dev nD × CK → ℕ) (c t : Dev nD) (d : Bool) (h : Fin 3) (j : Fin 4) (ht : t = nb d c) (k : ℕ) (hk : k = ord (d, h, j))
    (Q : PUnit → sProp 𝕄) :
    iprop(ctx A B K ∗ slotC d h j c (Wv A B d j h.val c) ∗ slotE d (h + 1) j (nb d c) ∗ Ex h d j c ∗ sndTok c d h j ∗ owed c k)
      ⊢ iprop(((cred (tallyAt (sndCell c d h j) () N) ∗ owed c (k + 1)) -∗ Q ⟨⟩) -∗ wpB c (send t d h j) Q) := by
  subst ht hk
  unfold slotC slotE sndTok owed send
  iintro ⟨#Hc, ⟨%f, %hf, HS⟩, ⟨%g, HD⟩, HE, ⟨Ht1, Ht2⟩, ⟨%W, HO⟩⟩ Hk
  ihave #H1 := (ctx_inv A B K (c, some (d, false, h, j))) $$ Hc
  ihave #H2 := (ctx_inv A B K (nb d c, some (d, true, h, j))) $$ Hc
  icases H1 with ⟨#HI1, #HR1⟩
  icases H2 with ⟨#HI2, #HR2⟩
  iapply (Rounds.wp_send_pointsTo_with 𝒱₀ ER (ringRd A B) (c : Thread nD τ) none (c' := (nb d c : Thread nD τ)) (src := slotM d h j) (dst := slotM d (h + 1) j)
      (sS := .dma (semM d false h j)) (sem := .dma (semM d true h j)) (κ₁ := K (c, some (d, false, h, j))) (κ₂ := K (nb d c, some (d, true, h, j)))
      (r₁ := 0) (r₂ := 0) (d₁ := false) (d₂ := false) (fs := f) (fd := g) (F := Ex h d j c)
      (by rw [show ((c : Thread nD τ), SemLoc.dma (semM d false h j)) = sndCell c d h j from rfl, duties_xfer]; exact Finset.mem_singleton_self _)
      (by rw [show ((nb d c : Thread nD τ), SemLoc.dma (semM d true h j)) = rcvCell (nb d c) d h j from rfl, duties_xfer]; exact Finset.mem_singleton_self _)
      () () N rfl (amount_xfer A B c (d, false, h, j) false) (amount_xfer A B (nb d c) (d, true, h, j) false) (Ow c (ord (d, h, j) + 1)) (Ow_step c (d, h, j)) (W := W)
      (by
        rw [show ((c : Thread nD τ), SemLoc.dma (semM d false h j)) = sndCell c d h j from rfl, payload_snd]; unfold sndPay slotE
        iintro H; iexists f; iexact H)
      (by
        rw [show ((nb d c : Thread nD τ), SemLoc.dma (semM d true h j)) = rcvCell (nb d c) d h j from rfl, payload_rcv]; unfold rcvPay slotC
        rw [fr_nb]
        iintro ⟨H, HE⟩
        isplitl [H]
        · iexists _; isplitr
          rotate_left
          · iexact H
          ipureintro
          rw [← hf]
          funext x
          exact View.read_write_of_mem (v := (slotM d (h + 1) j).view) g _ (Finset.mem_univ x)
        iexact HE))
    $$ [HS HD HE Ht1 Ht2 HO]
  · isplitr; · iexact HI1
    isplitr; · iexact HI2
    isplitl [HS]; · iexact HS
    isplitl [HD HE]
    · isplitl [HD]; · iexact HD
      iexact HE
    isplitl [HO]; · iexact HO
    isplitl [Ht1]; · iexact Ht1
    isplitr; · iexact HR1
    isplitl [Ht2]; · iexact Ht2
    iexact HR2
  iintro ⟨Hcr, HO⟩
  rw [wp_ret]; imodintro
  iapply Hk
  isplitl [Hcr]; · iexact Hcr
  iexists W; iexact HO

/-- Waiting for a hop's segment: the slot sent from comes back, and the segment that arrives is here. -/
theorem st_wait (K : Dev nD × CK → ℕ) (c : Dev nD) (d : Bool) (h : Fin 3) (j : Fin 4) (k : ℕ) (hk : 8 * (h.val + 1) ≤ k) (Q : PUnit → sProp 𝕄) :
    iprop(ctx A B K ∗ cred (tallyAt (sndCell c d h j) () N) ∗ wtTok c d h j ∗ owed c k)
      ⊢ iprop(((slotE d h j c ∗ slotC d (h + 1) j c (Wv A B d j h.val (fr d c)) ∗ Ex h d j (fr d c) ∗ done c d h j ∗ owed c k) -∗ Q ⟨⟩)
        -∗ wpB c (wait d h j) Q) := by
  unfold wtTok owed wait done
  simp only [Prog.lift, Prog.bind_op, Prog.bind_ret]
  iintro ⟨#Hc, Hcs, ⟨HaS, HaR, Hcr⟩, ⟨%W, HO⟩⟩ Hk
  ihave #H1 := (ctx_inv A B K (c, some (d, false, h, j))) $$ Hc
  ihave #H2 := (ctx_inv A B K (c, some (d, true, h, j))) $$ Hc
  icases H1 with ⟨#HI1, -⟩
  icases H2 with ⟨#HI2, -⟩
  iapply (Rounds.wp_wait_rest_token 𝒱₀ ER (ringRd A B) (c : Thread nD τ) none (κ := K (c, some (d, false, h, j)))
      (wpE_waitDma2_eq 𝒱₀ (c : Thread nD τ) none Set.univ) (Set.mem_univ _) () (O := Ow c k) (W := W) (R := 0) (m := 0) (T := ∅)
      (by rw [Nat.zero_add]; exact (expect_xfer A B c (d, false, h, j)).symm)) $$ [Hcs HO HaS]
  · isplitr; · iexact HI1
    isplitl [Hcs]; · iexact Hcs
    isplitl [HO]; · iexact HO
    isplitr
    · iapply (mayWait c (.dma (semM d false h j)) (2 + h.val) (Ow c k) (by rw [show kind (.dma (semM d false h j)) = _ from kind_csem (some (d, false, h, j))]; exact Nat.zero_le _)
        (above_Ow c h.val k hk))
      iapply (ctx_lev A B K) $$ Hc
    iexact HaS
  iintro ⟨HO, HaS, -, Hp⟩
  ihave HS := (Entails.of_eq (rest_snd A B c d h j)) $$ Hp
  unfold sndPay
  iapply (Rounds.wp_wait_rest_token 𝒱₀ ER (ringRd A B) (c : Thread nD τ) none (κ := K (c, some (d, true, h, j)))
      (wpE_waitDma2_eq 𝒱₀ (c : Thread nD τ) none Set.univ) (Set.mem_univ _) () (O := Ow c k) (R := 0) (m := 0) (T := ∅)
      (by rw [Nat.zero_add]; exact (expect_xfer A B c (d, true, h, j)).symm)) $$ [Hcr HO HaR]
  · isplitr; · iexact HI2
    isplitl [Hcr]; · iexact Hcr
    isplitl [HO]; · iexact HO
    isplitr
    · iapply (mayWait c (.dma (semM d true h j)) (2 + h.val) (Ow c k) (by rw [show kind (.dma (semM d true h j)) = _ from kind_csem (some (d, true, h, j))]; exact le_rfl)
        (above_Ow c h.val k hk))
      iapply (ctx_lev A B K) $$ Hc
    iexact HaR
  iintro ⟨HO, HaR, -, Hp⟩
  ihave HR := (Entails.of_eq (rest_rcv A B c d h j)) $$ Hp
  unfold rcvPay
  icases HR with ⟨HR, HE⟩
  imod (Rounds.cell_close ER (ringRd A B) (Set.mem_univ (K (c, some (d, false, h, j)))) (fun h => h) (R := 0 + 1) (duties_later A B (sndCell c d h j))) $$ [HaS] with HzS
  · isplitr; · iexact HI1
    iexact HaS
  imod (Rounds.cell_close ER (ringRd A B) (Set.mem_univ (K (c, some (d, true, h, j)))) (fun h => h) (R := 0 + 1) (duties_later A B (rcvCell c d h j))) $$ [HaR] with HzR
  · isplitr; · iexact HI2
    iexact HaR
  rw [wp_ret]; imodintro
  iapply Hk
  isplitl [HS]; · iexact HS
  isplitl [HR]; · iexact HR
  isplitl [HE]; · iexact HE
  isplitl [HzS HzR]
  · isplitl [HzS]; · iexact HzS
    iexact HzR
  iexists _; iexact HO

end Cert.KernelIdeal.Ring

end
-- ==== Proof.Segments.lean ====
/-
  The body's steps: the handshake, a segment of the first chunk, a segment of a hop, a segment of the last hop.

  `col c d p j` is what a device holds of segment `j` in direction `d` after `p` of the segment's four steps.
-/
module

public import proofs.«01_k».proof.Proof.Atoms

@[expose] public section

set_option synthInstance.maxSize 4096

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → (main_arg0 : Ref sig .tc).ty.Contents (Elt F)) (B : Dev nD → Vec F S1536x3072 .f32)

/-! ## The handshake -/

/-- What device `c` gives the neighbour that direction `d` comes from: slots 1 and 2 of its own buffer. -/
def mine (c : Dev nD) (d : Bool) : sProp 𝕄 := bigSep Finset.univ fun j : Fin 4 => iprop(slotE d 1 j c ∗ slotE d 2 j c)

omit [FloatOps F] in
theorem mine_pay (c : Dev nD) (d : Bool) : (mine c d : sProp 𝕄) = barPay (fr d c) d := by unfold mine barPay; rw [nb_fr]

/-- The handshake: a device gives each neighbour its slots and is given theirs. -/
theorem st_start (K : Dev nD × CK → ℕ) (c : Dev nD) (Q : PUnit → sProp 𝕄) :
    iprop(ctx A B K ∗ mine c true ∗ mine c false ∗ dutyTok ER (barCell (fr true c)) 0 true ∗ dutyTok ER (barCell (fr false c)) 0 false
        ∗ atPos ER (barCell c) 0 ∅ 0 ∗ cred (tallyAt (barCell c) () 2) ∗ ∃ W, owes (c : Thread nD τ) (O₀ c) W)
      ⊢ iprop(((barPay c true ∗ barPay c false ∗ semVal (barCell c) 0 ∗ owed c 0) -∗ Q ⟨⟩) -∗ wpB c (start c) Q) := by
  unfold start owed
  simp only [semSignalWord, semWaitWord, Prog.bind_op, Prog.bind_ret, dev1_eq c, dev2_eq c]
  iintro ⟨#Hc, Hm1, Hm2, Ht1, Ht2, Hat, Hcr, ⟨%W, HO⟩⟩ Hk
  ihave #H0 := (ctx_inv A B K (c, none)) $$ Hc
  ihave #H1 := (ctx_inv A B K (fr true c, none)) $$ Hc
  ihave #H2 := (ctx_inv A B K (fr false c, none)) $$ Hc
  icases H0 with ⟨#HI0, -⟩
  icases H1 with ⟨#HI1, #HR1⟩
  icases H2 with ⟨#HI2, #HR2⟩
  iapply (Rounds.wp_signal 𝒱₀ ER (ringRd A B) (c : Thread nD τ) none (dst := (nb false c : Thread nD τ)) (κ := K (fr true c, none))
      (d := true) (by rw [duties_bar A B (nb false c)]; exact Finset.mem_univ _) ((amount_bar A B (nb false c) true).trans (by decide)) () (O₁ c) rfl)
    $$ [HO Ht1 Hm1]
  · isplitr; · iexact HI1
    isplitl [HO]; · iexact HO
    isplitl [Ht1]; · iexact Ht1
    isplitl [Hm1]
    · iapply (Entails.of_eq ((mine_pay c true).trans (payload_bar A B (nb false c) true).symm)) $$ Hm1
    iexact HR1
  iintro HO
  unfold O₁
  iapply (Rounds.wp_signal 𝒱₀ ER (ringRd A B) (c : Thread nD τ) none (dst := (nb true c : Thread nD τ)) (κ := K (fr false c, none))
      (d := false) (by rw [duties_bar A B (nb true c)]; exact Finset.mem_univ _) ((amount_bar A B (nb true c) false).trans (by decide)) () (Ow c 0) rfl)
    $$ [HO Ht2 Hm2]
  · isplitr; · iexact HI2
    isplitl [HO]; · iexact HO
    isplitl [Ht2]; · iexact Ht2
    isplitl [Hm2]
    · iapply (Entails.of_eq ((mine_pay c false).trans (payload_bar A B (nb true c) false).symm)) $$ Hm2
    iexact HR2
  iintro HO
  iapply (Rounds.wp_wait_rest_token 𝒱₀ ER (ringRd A B) (c : Thread nD τ) none (κ := K (c, none))
      (wpE_semWait_eq 𝒱₀ (c : Thread nD τ) none Set.univ) (Set.mem_univ _) () (O := Ow c 0) (W := W) (R := 0) (m := 0) (T := ∅)
      (by rw [show Rounds.Schedule.expect _ _ 0 = _ from expect_bar A B c]; decide)) $$ [Hcr HO Hat]
  · isplitr; · iexact HI0
    isplitl [Hcr]; · iexact Hcr
    isplitl [HO]; · iexact HO
    isplitr
    · iapply (mayWait c (.reg barS) 1 (Ow c 0) (by decide) (above_Ow_one c 0))
      iapply (ctx_lev A B K) $$ Hc
    iexact Hat
  iintro ⟨HO, Hat, -, Hp⟩
  ihave Hp := (Entails.of_eq (rest_bar A B c)) $$ Hp
  icases Hp with ⟨Hp1, Hp2⟩
  imod (Rounds.cell_close ER (ringRd A B) (Set.mem_univ (K (c, none))) (fun h => h) (R := 0 + 1) (duties_later A B (barCell c))) $$ [Hat] with Hz
  · isplitr; · iexact HI0
    iexact Hat
  rw [wp_ret]; imodintro
  iapply Hk
  isplitl [Hp1]; · iexact Hp1
  isplitl [Hp2]; · iexact Hp2
  isplitl [Hz]; · iexact Hz
  iexists _; iexact HO

/-! ## The first chunk -/

omit [FloatOps F] in
theorem Ex_ne (h : Fin 3) (hh : h ≠ 1) (d : Bool) (j : Fin 4) (c : Dev nD) : (Ex h d j c : sProp 𝕄) = iprop(emp) := if_neg hh
omit [FloatOps F] in
theorem Ex_one (d : Bool) (j : Fin 4) (c : Dev nD) : (Ex 1 d j c : sProp 𝕄) = slotE (!d) 0 j c := if_pos rfl

/-- A segment of the first chunk in one direction: its product, sent to the neighbour's slot 1. -/
theorem st_first (K : Dev nD × CK → ℕ) (c : Dev nD) (d : Bool) (j : Fin 4) (Q : PUnit → sProp 𝕄) :
    iprop(ctx A B K ∗ bP B c ∗ stgP c d (arow A c d 0) ∗ (slotE d 0 j c ∗ slotE d 1 j (nb d c) ∗ sndTok c d 0 j) ∗ owed c (ord (d, 0, j)))
      ⊢ iprop(((bP B c ∗ stgP c d (arow A c d 0) ∗ cred (tallyAt (sndCell c d 0 j) () N) ∗ owed c (ord (d, 0, j) + 1)) -∗ Q ⟨⟩)
        -∗ wpB c (firstD c d j) Q) := by
  unfold firstD
  simp only [wp_bind]
  iintro ⟨#Hc, HB, HS, ⟨H0, H1, Ht⟩, HO⟩ Hk
  iapply (ld_seg c d j _ _) $$ HS; iintro HS
  iapply (ld_B B c _) $$ HB; iintro HB
  icases (slotE_C d 0 j c) $$ H0 with ⟨%w, H0⟩
  iapply (ld_slot c d 0 j w _) $$ H0; iintro H0
  iapply (st_slot c d 0 j _ _) $$ [H0]
  · iapply (slotC_E d 0 j c w) $$ H0
  iintro H0
  iapply (st_send A B K c _ d 0 j (devs_eq c d 0 j) _ rfl _) $$ [H0 H1 Ht HO]
  · isplitr; · iexact Hc
    isplitl [H0]; · iexact H0
    isplitl [H1]; · iexact H1
    isplitr; · rw [Ex_ne 0 (by decide)]; iempintro
    isplitl [Ht]; · iexact Ht
    iexact HO
  iintro ⟨Hcr, HO⟩
  iapply Hk
  isplitl [HB]; · iexact HB
  isplitl [HS]; · iexact HS
  isplitl [Hcr]; · iexact Hcr
  iexact HO

/-! ## A hop -/

/-- What a device holds of a segment for the transfer after next; -/
def carry (h : Fin 3) (d : Bool) (j : Fin 4) (c : Dev nD) : sProp 𝕄 := if h = 0 then slotE d 2 j (nb d c) else iprop(emp)
/-- and what it keeps of a hop. -/
def leave (h : Fin 3) (d : Bool) (j : Fin 4) (c : Dev nD) : sProp 𝕄 := if h = 0 then iprop(emp) else slotE d 1 j c

/-- A transfer is issued, and its hop's waits are to come. -/
def pend (c : Dev nD) (d : Bool) (h : Fin 3) (j : Fin 4) : sProp 𝕄 :=
  iprop(cred (tallyAt (sndCell c d h j) () N) ∗ wtTok c d h j)

omit [FloatOps F] in
theorem carry_zero (d : Bool) (j : Fin 4) (c : Dev nD) : (carry 0 d j c : sProp 𝕄) = slotE d 2 j (nb d c) := if_pos rfl
omit [FloatOps F] in
theorem carry_one (d : Bool) (j : Fin 4) (c : Dev nD) : (carry 1 d j c : sProp 𝕄) = iprop(emp) := if_neg (by decide)
omit [FloatOps F] in
theorem leave_zero (d : Bool) (j : Fin 4) (c : Dev nD) : (leave 0 d j c : sProp 𝕄) = iprop(emp) := if_pos rfl
omit [FloatOps F] in
theorem leave_one (d : Bool) (j : Fin 4) (c : Dev nD) : (leave 1 d j c : sProp 𝕄) = slotE d 1 j c := if_neg (by decide)

omit [FloatOps F] in
/-- After the waits of hop `h` in both directions a device holds what its transfers of the next hop take: the slot that direction `d`'s
    writes on the neighbour, and what it hands over. -/
theorem resplit (h : Fin 3) (hh : h.val < 2) (j : Fin 4) (c : Dev nD) :
    iprop((slotE true h j c ∗ Ex h true j (fr true c) ∗ carry h true j c) ∗ (slotE false h j c ∗ Ex h false j (fr false c) ∗ carry h false j c))
      ⊢ (iprop((slotE true (h + 1 + 1) j (nb true c) ∗ Ex (h + 1) true j c ∗ leave h true j c)
        ∗ (slotE false (h + 1 + 1) j (nb false c) ∗ Ex (h + 1) false j c ∗ leave h false j c)) : sProp 𝕄) := by
  obtain rfl | rfl : h = 0 ∨ h = 1 := by omega
  · have e : (0 : Fin 3) + 1 = 1 := rfl
    simp only [carry_zero, leave_zero, e, Ex_one, Bool.not_true, Bool.not_false]
    iintro ⟨⟨H1, -, H2⟩, ⟨H3, -, H4⟩⟩
    isplitl [H2 H3]
    · isplitl [H2]; · iexact H2
      isplitl [H3]; · iexact H3
      iempintro
    isplitl [H4]; · iexact H4
    isplitl [H1]; · iexact H1
    iempintro
  · have e : (1 : Fin 3) + 1 = 2 := rfl
    simp only [carry_one, leave_one, Ex_one, e, Ex_ne 2 (by decide), Bool.not_true, Bool.not_false]
    iintro ⟨⟨H1, H2, -⟩, ⟨H3, H4, -⟩⟩
    isplitl [H1 H4]
    · isplitl [H4]; · iexact H4
      isplitr; · iempintro
      iexact H1
    isplitl [H2]; · iexact H2
    isplitr; · iempintro
    iexact H3

/-- A segment of a hop: what has arrived in both directions, with this device's products added, is sent on. -/
theorem st_hopSeg (K : Dev nD × CK → ℕ) (c : Dev nD) (h : Fin 3) (hh : h.val < 2) (s : Fin 4) (j : Fin 4)
    (hW : ∀ d, Wv A B d j (h + 1).val c = sq (k0_pay10 (k0_pay9 (aseg A c d s j) (B c)) (usq (Wv A B d j h.val (fr d c))))) (Q : PUnit → sProp 𝕄) :
    iprop(ctx A B K ∗ bP B c ∗ stgP c true (arow A c true s) ∗ stgP c false (arow A c false s)
        ∗ (carry h true j c ∗ pend c true h j ∗ sndTok c true (h + 1) j) ∗ (carry h false j c ∗ pend c false h j ∗ sndTok c false (h + 1) j)
        ∗ owed c (8 * (h.val + 1) + 2 * j.val))
      ⊢ iprop(((bP B c ∗ stgP c true (arow A c true s) ∗ stgP c false (arow A c false s)
          ∗ (leave h true j c ∗ cred (tallyAt (sndCell c true (h + 1) j) () N) ∗ done c true h j)
          ∗ (leave h false j c ∗ cred (tallyAt (sndCell c false (h + 1) j) () N) ∗ done c false h j)
          ∗ owed c (8 * (h.val + 1) + 2 * j.val + 2)) -∗ Q ⟨⟩)
        -∗ wpB c (hopSeg c h j) Q) := by
  have hv : (h + 1).val = h.val + 1 := by
    obtain rfl | rfl : h = 0 ∨ h = 1 := by omega
    · rfl
    · rfl
  unfold hopSeg pend
  simp only [wp_bind]
  iintro ⟨#Hc, HB, HS1, HS2, ⟨Hy1, ⟨Hp1, Hw1⟩, Ht1⟩, ⟨Hy2, ⟨Hp2, Hw2⟩, Ht2⟩, HO⟩ Hk
  iapply (ld_seg c true j _ _) $$ HS1; iintro HS1
  iapply (ld_B B c _) $$ HB; iintro HB
  iapply (st_wait A B K c true h j _ (Nat.le_add_right _ _) _) $$ [Hp1 Hw1 HO]
  · isplitr; · iexact Hc
    isplitl [Hp1]; · iexact Hp1
    isplitl [Hw1]; · iexact Hw1
    iexact HO
  iintro ⟨Ha1, Hn1, He1, Hd1, HO⟩
  iapply (ld_slot c true (h + 1) j _ _) $$ Hn1; iintro Hn1
  iapply (ld_slot c true (h + 1) j _ _) $$ Hn1; iintro Hn1
  iapply (st_slot c true (h + 1) j _ _) $$ [Hn1]
  · iapply (slotC_E true (h + 1) j c _) $$ Hn1
  iintro Hn1
  iapply (st_wait A B K c false h j _ (Nat.le_add_right _ _) _) $$ [Hp2 Hw2 HO]
  · isplitr; · iexact Hc
    isplitl [Hp2]; · iexact Hp2
    isplitl [Hw2]; · iexact Hw2
    iexact HO
  iintro ⟨Ha2, Hn2, He2, Hd2, HO⟩
  icases (resplit h hh j c) $$ [Ha1 He1 Hy1 Ha2 He2 Hy2] with ⟨⟨Ha1, He1, Hy1⟩, ⟨Ha2, He2, Hy2⟩⟩
  · isplitl [Ha1 He1 Hy1]
    · isplitl [Ha1]; · iexact Ha1
      isplitl [He1]; · iexact He1
      iexact Hy1
    isplitl [Ha2]; · iexact Ha2
    isplitl [He2]; · iexact He2
    iexact Hy2
  iapply (st_send A B K c _ true (h + 1) j (devs_eq c true (h + 1) j) (8 * (h.val + 1) + 2 * j.val) (by unfold ord; rw [hv]; rfl) _)
    $$ [Hn1 Ha1 He1 Ht1 HO]
  · isplitr; · iexact Hc
    isplitl [Hn1]; · rw [hW true]; iexact Hn1
    isplitl [Ha1]; · iexact Ha1
    isplitl [He1]; · iexact He1
    isplitl [Ht1]; · iexact Ht1
    iexact HO
  iintro ⟨Hc1, HO⟩
  iapply (ld_seg c false j _ _) $$ HS2; iintro HS2
  iapply (ld_B B c _) $$ HB; iintro HB
  iapply (ld_slot c false (h + 1) j _ _) $$ Hn2; iintro Hn2
  iapply (ld_slot c false (h + 1) j _ _) $$ Hn2; iintro Hn2
  iapply (st_slot c false (h + 1) j _ _) $$ [Hn2]
  · iapply (slotC_E false (h + 1) j c _) $$ Hn2
  iintro Hn2
  iapply (st_send A B K c _ false (h + 1) j (devs_eq c false (h + 1) j) (8 * (h.val + 1) + 2 * j.val + 1) (by unfold ord; rw [hv]; rfl) _)
    $$ [Hn2 Ha2 He2 Ht2 HO]
  · isplitr; · iexact Hc
    isplitl [Hn2]; · rw [hW false]; iexact Hn2
    isplitl [Ha2]; · iexact Ha2
    isplitl [He2]; · iexact He2
    isplitl [Ht2]; · iexact Ht2
    iexact HO
  iintro ⟨Hc2, HO⟩
  iapply Hk
  isplitl [HB]; · iexact HB
  isplitl [HS1]; · iexact HS1
  isplitl [HS2]; · iexact HS2
  isplitl [Hy1 Hc1 Hd1]
  · isplitl [Hy1]; · iexact Hy1
    isplitl [Hc1]; · iexact Hc1
    iexact Hd1
  isplitl [Hy2 Hc2 Hd2]
  · isplitl [Hy2]; · iexact Hy2
    isplitl [Hc2]; · iexact Hc2
    iexact Hd2
  iexact HO

/-! ## The last hop -/

/-- The place of a segment in the order in which the last hop writes the result. -/
def place (d : Bool) (j : Fin 4) : ℕ := 2 * j.val + bif d then 0 else 1

/-- The result's rows, with the first `n` segments written. -/
def oP (c : Dev nD) (n : ℕ) : sProp 𝕄 :=
  iprop(∃ f : (cc0_stg1_0 : Ref sig .tc).ty.Contents (Elt F), ⌜∀ d j, place d j < n → (oM.access (outR d j)).read (Elt F) f = outv A B c d j⌝
    ∗ (((c : Thread nD τ).loc cc0_stg1_0) ↦{fullShare} f))

theorem place_inj : ∀ d j d' j', place d j = place d' j' → d = d' ∧ j = j' := by decide

omit [FloatOps F] in
/-- Writing a segment of the result leaves the others. -/
theorem out_other (f : (cc0_stg1_0 : Ref sig .tc).ty.Contents (Elt F)) (d d' : Bool) (j j' : Fin 4) (w : Vec F S96x3072 .f32) (hne : ¬ (d = d' ∧ j = j')) :
    (oM.access (outR d' j')).read (Elt F) ((oM.access (outR d j)).write (Elt F) f w Finset.univ) = (oM.access (outR d' j')).read (Elt F) f := by
  funext x
  have hx : (oM.access (outR d' j')).emb x ∉ (oM.access (outR d j)).setOn Finset.univ := by
    intro hm
    obtain ⟨y, -, hy⟩ := Finset.mem_map.mp hm
    apply hne
    have h0 : orow d j + 1 * (y 0).val = orow d' j' + 1 * (x 0).val := congrArg (fun i : S768x3072.Idx => (i 0).val) hy
    have hy0 : (y 0).val < 96 := (y 0).isLt
    have hx0 : (x 0).val < 96 := (x 0).isLt
    have hj := j.isLt
    have hj' := j'.isLt
    unfold orow at h0
    cases d <;> cases d' <;> simp only [cond_true, cond_false] at h0 <;>
      first
        | exact ⟨rfl, Fin.ext (by omega)⟩
        | omega
  rw [View.read_apply, View.read_apply, View.write_of_not_mem _ _ _ hx]

/-- A segment of the last hop in one direction: what has arrived, with this device's product added, is written to the result. -/
theorem st_last (K : Dev nD × CK → ℕ) (c : Dev nD) (d : Bool) (j : Fin 4) (n : ℕ) (hn : place d j = n) (Q : PUnit → sProp 𝕄) :
    iprop(ctx A B K ∗ bP B c ∗ stgP c d (arow A c d 3) ∗ pend c d 2 j ∗ oP A B c n ∗ owed c 24)
      ⊢ iprop(((bP B c ∗ stgP c d (arow A c d 3) ∗ (slotE d 2 j c ∗ slotE d 0 j c ∗ done c d 2 j) ∗ oP A B c (n + 1) ∗ owed c 24) -∗ Q ⟨⟩)
        -∗ wpB c (lastD d j) Q) := by
  unfold lastD pend oP
  simp only [wp_bind]
  iintro ⟨#Hc, HB, HS, ⟨Hp, Hw⟩, ⟨%f, %hf, HT⟩, HO⟩ Hk
  iapply (ld_seg c d j _ _) $$ HS; iintro HS
  iapply (ld_B B c _) $$ HB; iintro HB
  iapply (st_wait A B K c d 2 j 24 (by decide) _) $$ [Hp Hw HO]
  · isplitr; · iexact Hc
    isplitl [Hp]; · iexact Hp
    isplitl [Hw]; · iexact Hw
    iexact HO
  rw [show (2 : Fin 3) + 1 = 0 from rfl]
  iintro ⟨Ha, Hn, -, Hd, HO⟩
  iapply (ld_slot c d 0 j _ _) $$ Hn; iintro Hn
  simp only [Prog.lift]
  iapply (wp_load 𝒱₀ (c : Thread nD τ) none Set.univ (m := oM) (Finset.subset_univ _)) $$ HT; iintro HT
  rw [wp_ret]; imodintro
  iapply (wp_store 𝒱₀ (c : Thread nD τ) none Set.univ (m := oM) (r := outR d j) (Mk := Finset.univ) (Finset.subset_univ _)) $$ HT; iintro HT
  rw [wp_ret]; imodintro
  iapply Hk
  isplitl [HB]; · iexact HB
  isplitl [HS]; · iexact HS
  isplitl [Ha Hn Hd]
  · isplitl [Ha]; · iexact Ha
    isplitl [Hn]; · iapply (slotC_E d 0 j c _) $$ Hn
    iexact Hd
  isplitl [HT]
  · iexists _; isplitr
    rotate_left
    · iexact HT
    ipureintro
    intro d' j' hp
    by_cases he : d = d' ∧ j = j'
    · obtain ⟨rfl, rfl⟩ := he
      funext x
      exact View.read_write_of_mem (v := oM.access (outR d j)) f _ (Finset.mem_univ x)
    · rw [out_other f d d' j j' _ he]
      refine hf d' j' (lt_of_le_of_ne (Nat.lt_succ_iff.mp hp) fun e => he ?_)
      exact place_inj d j d' j' (hn.trans e.symm)
  iexact HO

end Cert.KernelIdeal.Ring

end
-- ==== Proof.Body.lean ====
/-
  The body, from what a device holds at launch to what it holds at the end: every slot of its buffers again, its semaphores at zero, and its rows
  of the product written.
-/
module

public import proofs.«01_k».proof.Proof.Segments

@[expose] public section

set_option synthInstance.maxSize 4096

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → (main_arg0 : Ref sig .tc).ty.Contents (Elt F)) (B : Dev nD → Vec F S1536x3072 .f32)

/-! ## A segment's state -/

/-- A hop's tokens. -/
def tk (c : Dev nD) (d : Bool) (j : Fin 4) (h : Fin 3) : sProp 𝕄 := iprop(sndTok c d h j ∗ wtTok c d h j)
/-- What a device starts a segment with, beside its neighbour's slots: its own slot 0 and the tokens. -/
def own0 (c : Dev nD) (d : Bool) (j : Fin 4) : sProp 𝕄 := iprop(slotE d 0 j c ∗ tk c d j 0 ∗ tk c d j 1 ∗ tk c d j 2)

/-- What a device holds of segment `j` in direction `d` after `p` of its steps. -/
def col (c : Dev nD) (d : Bool) : ℕ → Fin 4 → sProp 𝕄
  | 0, j => iprop(own0 c d j ∗ slotE d 1 j (nb d c) ∗ slotE d 2 j (nb d c))
  | 1, j => iprop(slotE d 2 j (nb d c) ∗ pend c d 0 j ∗ tk c d j 1 ∗ tk c d j 2)
  | 2, j => iprop(pend c d 1 j ∗ tk c d j 2 ∗ done c d 0 j)
  | 3, j => iprop(slotE d 1 j c ∗ pend c d 2 j ∗ done c d 0 j ∗ done c d 1 j)
  | _ + 4, j => iprop((slotE d 0 j c ∗ slotE d 1 j c ∗ slotE d 2 j c) ∗ done c d 0 j ∗ done c d 1 j ∗ done c d 2 j)

/-- All four segments of a direction. -/
def row (c : Dev nD) (d : Bool) (p : ℕ) : sProp 𝕄 := bigSep Finset.univ (col c d p)

omit [FloatOps F] in
theorem row_eq (c : Dev nD) (d : Bool) (p : ℕ) : (row c d p : sProp 𝕄) = iprop(col c d p 0 ∗ col c d p 1 ∗ col c d p 2 ∗ col c d p 3) := by
  unfold row
  rw [bigSep_univ_eq_bigSepL [0, 1, 2, 3] (by decide) (by decide), bigSepL_cons_cons, bigSepL_cons_cons, bigSepL_cons_cons, bigSepL_singleton]
  rfl

/-- A device's matrices, staged rows of chunk `s`, copying semaphores, and what it owes. -/
def env (c : Dev nD) (s : Fin 4) (k : ℕ) : sProp 𝕄 :=
  iprop(aP A c ∗ bP B c ∗ stgP c true (arow A c true s) ∗ stgP c false (arow A c false s)
    ∗ semVal ((c : Thread nD τ), SemLoc.dma (cpM true)) 0 ∗ semVal ((c : Thread nD τ), SemLoc.dma (cpM false)) 0 ∗ owed c k)

/-! ## The steps, on a segment's state -/

/-- The first step of a segment in one direction. -/
theorem first_col (K : Dev nD × CK → ℕ) (c : Dev nD) (d : Bool) (j : Fin 4) (k : ℕ) (hk : ord (d, 0, j) = k) (Q : PUnit → sProp 𝕄) :
    iprop(ctx A B K ∗ bP B c ∗ stgP c d (arow A c d 0) ∗ col c d 0 j ∗ owed c k)
      ⊢ iprop(((bP B c ∗ stgP c d (arow A c d 0) ∗ col c d 1 j ∗ owed c (k + 1)) -∗ Q ⟨⟩) -∗ wpB c (firstD c d j) Q) := by
  subst hk
  unfold col own0 tk pend
  iintro ⟨#Hc, HB, HS, ⟨⟨H0, ⟨Hs, Hw⟩, HT1, HT2⟩, H1, H2⟩, HO⟩ Hk
  iapply (st_first A B K c d j Q) $$ [HB HS H0 H1 Hs HO]
  · isplitr; · iexact Hc
    isplitl [HB]; · iexact HB
    isplitl [HS]; · iexact HS
    isplitl [H0 H1 Hs]
    · isplitl [H0]; · iexact H0
      isplitl [H1]; · iexact H1
      iexact Hs
    iexact HO
  iintro ⟨HB, HS, Hcr, HO⟩
  iapply Hk
  isplitl [HB]; · iexact HB
  isplitl [HS]; · iexact HS
  isplitl [H2 Hcr Hw HT1 HT2]
  · isplitl [H2]; · iexact H2
    isplitl [Hcr Hw]
    · isplitl [Hcr]; · iexact Hcr
      iexact Hw
    isplitl [HT1]; · iexact HT1
    iexact HT2
  iexact HO

/-- What a hop leaves aside of a segment's state. -/
def aside (c : Dev nD) (d : Bool) (h : Fin 3) (j : Fin 4) : sProp 𝕄 := if h = 0 then tk c d j 2 else done c d 0 j

omit [FloatOps F] in
/-- A segment's state before a hop -/
theorem col_in (c : Dev nD) (d : Bool) (h : Fin 3) (hh : h.val < 2) (j : Fin 4) :
    col c d (h.val + 1) j ⊢ (iprop((carry h d j c ∗ pend c d h j ∗ sndTok c d (h + 1) j) ∗ wtTok c d (h + 1) j ∗ aside c d h j) : sProp 𝕄) := by
  obtain rfl | rfl : h = 0 ∨ h = 1 := by omega
  · show col c d 1 j ⊢ _
    have e : (0 : Fin 3) + 1 = 1 := rfl
    have ha : (aside c d 0 j : sProp 𝕄) = tk c d j 2 := if_pos rfl
    rw [carry_zero, e, ha]; unfold col tk
    iintro ⟨H1, H2, ⟨H3, H4⟩, H5⟩
    isplitl [H1 H2 H3]
    · isplitl [H1]; · iexact H1
      isplitl [H2]; · iexact H2
      iexact H3
    isplitl [H4]; · iexact H4
    iexact H5
  · show col c d 2 j ⊢ _
    have e : (1 : Fin 3) + 1 = 2 := rfl
    have ha : (aside c d 1 j : sProp 𝕄) = done c d 0 j := if_neg (by decide)
    rw [carry_one, e, ha]; unfold col tk
    iintro ⟨H2, ⟨H3, H4⟩, H5⟩
    isplitl [H2 H3]
    · isplitr; · iempintro
      isplitl [H2]; · iexact H2
      iexact H3
    isplitl [H4]; · iexact H4
    iexact H5

omit [FloatOps F] in
/-- and after it. -/
theorem col_out (c : Dev nD) (d : Bool) (h : Fin 3) (hh : h.val < 2) (j : Fin 4) :
    iprop((leave h d j c ∗ cred (tallyAt (sndCell c d (h + 1) j) () N) ∗ done c d h j) ∗ wtTok c d (h + 1) j ∗ aside c d h j)
      ⊢ (col c d (h.val + 2) j : sProp 𝕄) := by
  obtain rfl | rfl : h = 0 ∨ h = 1 := by omega
  · show _ ⊢ col c d 2 j
    have e : (0 : Fin 3) + 1 = 1 := rfl
    have ha : (aside c d 0 j : sProp 𝕄) = tk c d j 2 := if_pos rfl
    rw [leave_zero, e, ha]; unfold col pend
    iintro ⟨⟨-, H2, H3⟩, H4, H5⟩
    isplitl [H2 H4]
    · isplitl [H2]; · iexact H2
      iexact H4
    isplitl [H5]; · iexact H5
    iexact H3
  · show _ ⊢ col c d 3 j
    have e : (1 : Fin 3) + 1 = 2 := rfl
    have ha : (aside c d 1 j : sProp 𝕄) = done c d 0 j := if_neg (by decide)
    rw [leave_one, e, ha]; unfold col pend
    iintro ⟨⟨H1, H2, H3⟩, H4, H5⟩
    isplitl [H1]; · iexact H1
    isplitl [H2 H4]
    · isplitl [H2]; · iexact H2
      iexact H4
    isplitl [H5]; · iexact H5
    iexact H3

/-- A hop's step of a segment. -/
theorem hop_col (K : Dev nD × CK → ℕ) (c : Dev nD) (h : Fin 3) (hh : h.val < 2) (s : Fin 4) (j : Fin 4) (k : ℕ) (hk : 8 * (h.val + 1) + 2 * j.val = k)
    (hW : ∀ d, Wv A B d j (h + 1).val c = sq (k0_pay10 (k0_pay9 (aseg A c d s j) (B c)) (usq (Wv A B d j h.val (fr d c))))) (Q : PUnit → sProp 𝕄) :
    iprop(ctx A B K ∗ env A B c s k ∗ col c true (h.val + 1) j ∗ col c false (h.val + 1) j)
      ⊢ iprop(((env A B c s (k + 2) ∗ col c true (h.val + 2) j ∗ col c false (h.val + 2) j) -∗ Q ⟨⟩) -∗ wpB c (hopSeg c h j) Q) := by
  subst hk
  unfold env
  iintro ⟨#Hc, ⟨HA, HB, HS1, HS2, Hv1, Hv2, HO⟩, H1, H2⟩ Hk
  icases (col_in c true h hh j) $$ H1 with ⟨H1, Hw1, Ha1⟩
  icases (col_in c false h hh j) $$ H2 with ⟨H2, Hw2, Ha2⟩
  iapply (st_hopSeg A B K c h hh s j hW Q) $$ [HB HS1 HS2 H1 H2 HO]
  · isplitr; · iexact Hc
    isplitl [HB]; · iexact HB
    isplitl [HS1]; · iexact HS1
    isplitl [HS2]; · iexact HS2
    isplitl [H1]; · iexact H1
    isplitl [H2]; · iexact H2
    iexact HO
  iintro ⟨HB, HS1, HS2, H1, H2, HO⟩
  iapply Hk
  isplitl [HA HB HS1 HS2 Hv1 Hv2 HO]
  · isplitl [HA]; · iexact HA
    isplitl [HB]; · iexact HB
    isplitl [HS1]; · iexact HS1
    isplitl [HS2]; · iexact HS2
    isplitl [Hv1]; · iexact Hv1
    isplitl [Hv2]; · iexact Hv2
    iexact HO
  isplitl [H1 Hw1 Ha1]
  · iapply (col_out c true h hh j)
    isplitl [H1]; · iexact H1
    isplitl [Hw1]; · iexact Hw1
    iexact Ha1
  iapply (col_out c false h hh j)
  isplitl [H2]; · iexact H2
  isplitl [Hw2]; · iexact Hw2
  iexact Ha2

/-- Staging both directions' rows of a chunk. -/
theorem st_stages (K : Dev nD × CK → ℕ) (c : Dev nD) (s₀ s : Fin 4) (k : ℕ) (Q : PUnit → sProp 𝕄) :
    iprop(ctx A B K ∗ env A B c s₀ k)
      ⊢ iprop((env A B c s k -∗ Q ⟨⟩) -∗ wpB c (stage c true s) (fun _ => wpB c (stage c false s) Q)) := by
  unfold env
  iintro ⟨#Hc, ⟨HA, HB, HS1, HS2, Hv1, Hv2, HO⟩⟩ Hk
  iapply (st_stage A B K c true s k _ _) $$ [HA HS1 Hv1 HO]
  · isplitr; · iexact Hc
    isplitl [HA]; · iexact HA
    isplitl [HS1]; · iexact HS1
    isplitl [Hv1]; · iexact Hv1
    iexact HO
  iintro ⟨HA, HS1, Hv1, HO⟩
  iapply (st_stage A B K c false s k _ _) $$ [HA HS2 Hv2 HO]
  · isplitr; · iexact Hc
    isplitl [HA]; · iexact HA
    isplitl [HS2]; · iexact HS2
    isplitl [Hv2]; · iexact Hv2
    iexact HO
  iintro ⟨HA, HS2, Hv2, HO⟩
  iapply Hk
  isplitl [HA]; · iexact HA
  isplitl [HB]; · iexact HB
  isplitl [HS1]; · iexact HS1
  isplitl [HS2]; · iexact HS2
  isplitl [Hv1]; · iexact Hv1
  isplitl [Hv2]; · iexact Hv2
  iexact HO

/-- A hop. -/
theorem st_hop (K : Dev nD × CK → ℕ) (c : Dev nD) (h : Fin 3) (hh : h.val < 2) (s₀ s : Fin 4) (k : ℕ) (hk : 8 * (h.val + 1) = k)
    (hW : ∀ d j, Wv A B d j (h + 1).val c = sq (k0_pay10 (k0_pay9 (aseg A c d s j) (B c)) (usq (Wv A B d j h.val (fr d c))))) (Q : PUnit → sProp 𝕄) :
    iprop(ctx A B K ∗ env A B c s₀ k ∗ row c true (h.val + 1) ∗ row c false (h.val + 1))
      ⊢ iprop(((env A B c s (k + 8) ∗ row c true (h.val + 2) ∗ row c false (h.val + 2)) -∗ Q ⟨⟩) -∗ wpB c (hop c h s) Q) := by
  unfold hop
  simp only [wp_bind, row_eq]
  iintro ⟨#Hc, HE, ⟨H10, H11, H12, H13⟩, ⟨H20, H21, H22, H23⟩⟩ Hk
  iapply (st_stages A B K c s₀ s k _) $$ [HE]
  · isplitr; · iexact Hc
    iexact HE
  iintro HE
  iapply (hop_col A B K c h hh s 0 k hk (fun d => hW d 0) _) $$ [HE H10 H20]
  · isplitr; · iexact Hc
    isplitl [HE]; · iexact HE
    isplitl [H10]; · iexact H10
    iexact H20
  iintro ⟨HE, H10, H20⟩
  iapply (hop_col A B K c h hh s 1 (k + 2) (by rw [← hk]; rfl) (fun d => hW d 1) _) $$ [HE H11 H21]
  · isplitr; · iexact Hc
    isplitl [HE]; · iexact HE
    isplitl [H11]; · iexact H11
    iexact H21
  iintro ⟨HE, H11, H21⟩
  iapply (hop_col A B K c h hh s 2 (k + 4) (by rw [← hk]; rfl) (fun d => hW d 2) _) $$ [HE H12 H22]
  · isplitr; · iexact Hc
    isplitl [HE]; · iexact HE
    isplitl [H12]; · iexact H12
    iexact H22
  iintro ⟨HE, H12, H22⟩
  iapply (hop_col A B K c h hh s 3 (k + 6) (by rw [← hk]; rfl) (fun d => hW d 3) _) $$ [HE H13 H23]
  · isplitr; · iexact Hc
    isplitl [HE]; · iexact HE
    isplitl [H13]; · iexact H13
    iexact H23
  iintro ⟨HE, H13, H23⟩
  iapply Hk
  isplitl [HE]; · iexact HE
  isplitl [H10 H11 H12 H13]
  · isplitl [H10]; · iexact H10
    isplitl [H11]; · iexact H11
    isplitl [H12]; · iexact H12
    iexact H13
  isplitl [H20]; · iexact H20
  isplitl [H21]; · iexact H21
  isplitl [H22]; · iexact H22
  iexact H23

/-- The last step of a segment in one direction. -/
theorem last_col (K : Dev nD × CK → ℕ) (c : Dev nD) (d : Bool) (j : Fin 4) (n : ℕ) (hn : place d j = n) (Q : PUnit → sProp 𝕄) :
    iprop(ctx A B K ∗ env A B c 3 24 ∗ col c d 3 j ∗ oP A B c n)
      ⊢ iprop(((env A B c 3 24 ∗ col c d 4 j ∗ oP A B c (n + 1)) -∗ Q ⟨⟩) -∗ wpB c (lastD d j) Q) := by
  unfold env col
  iintro ⟨#Hc, ⟨HA, HB, HS1, HS2, Hv1, Hv2, HO⟩, ⟨H1, Hp, Hd0, Hd1⟩, HT⟩ Hk
  cases d
  · iapply (st_last A B K c false j n hn Q) $$ [HB HS2 Hp HT HO]
    · isplitr; · iexact Hc
      isplitl [HB]; · iexact HB
      isplitl [HS2]; · iexact HS2
      isplitl [Hp]; · iexact Hp
      isplitl [HT]; · iexact HT
      iexact HO
    iintro ⟨HB, HS2, ⟨H2, H0, Hd2⟩, HT, HO⟩
    iapply Hk
    isplitl [HA HB HS1 HS2 Hv1 Hv2 HO]
    · isplitl [HA]; · iexact HA
      isplitl [HB]; · iexact HB
      isplitl [HS1]; · iexact HS1
      isplitl [HS2]; · iexact HS2
      isplitl [Hv1]; · iexact Hv1
      isplitl [Hv2]; · iexact Hv2
      iexact HO
    isplitr [HT]
    · isplitl [H0 H1 H2]
      · isplitl [H0]; · iexact H0
        isplitl [H1]; · iexact H1
        iexact H2
      isplitl [Hd0]; · iexact Hd0
      isplitl [Hd1]; · iexact Hd1
      iexact Hd2
    iexact HT
  · iapply (st_last A B K c true j n hn Q) $$ [HB HS1 Hp HT HO]
    · isplitr; · iexact Hc
      isplitl [HB]; · iexact HB
      isplitl [HS1]; · iexact HS1
      isplitl [Hp]; · iexact Hp
      isplitl [HT]; · iexact HT
      iexact HO
    iintro ⟨HB, HS1, ⟨H2, H0, Hd2⟩, HT, HO⟩
    iapply Hk
    isplitl [HA HB HS1 HS2 Hv1 Hv2 HO]
    · isplitl [HA]; · iexact HA
      isplitl [HB]; · iexact HB
      isplitl [HS1]; · iexact HS1
      isplitl [HS2]; · iexact HS2
      isplitl [Hv1]; · iexact Hv1
      isplitl [Hv2]; · iexact Hv2
      iexact HO
    isplitr [HT]
    · isplitl [H0 H1 H2]
      · isplitl [H0]; · iexact H0
        isplitl [H1]; · iexact H1
        iexact H2
      isplitl [Hd0]; · iexact Hd0
      isplitl [Hd1]; · iexact Hd1
      iexact Hd2
    iexact HT

/-- Both directions of a segment of the last hop. -/
theorem last_pair (K : Dev nD × CK → ℕ) (c : Dev nD) (j : Fin 4) (n : ℕ) (hn : 2 * j.val = n) (Q : PUnit → sProp 𝕄) :
    iprop(ctx A B K ∗ env A B c 3 24 ∗ (col c true 3 j ∗ col c false 3 j) ∗ oP A B c n)
      ⊢ iprop(((env A B c 3 24 ∗ (col c true 4 j ∗ col c false 4 j) ∗ oP A B c (n + 2)) -∗ Q ⟨⟩)
        -∗ wpB c (lastD true j) (fun _ => wpB c (lastD false j) Q)) := by
  iintro ⟨#Hc, HE, ⟨H1, H2⟩, HT⟩ Hk
  iapply (last_col A B K c true j n hn _) $$ [HE H1 HT]
  · isplitr; · iexact Hc
    isplitl [HE]; · iexact HE
    isplitl [H1]; · iexact H1
    iexact HT
  iintro ⟨HE, H1, HT⟩
  iapply (last_col A B K c false j (n + 1) (by rw [← hn]; rfl) _) $$ [HE H2 HT]
  · isplitr; · iexact Hc
    isplitl [HE]; · iexact HE
    isplitl [H2]; · iexact H2
    iexact HT
  iintro ⟨HE, H2, HT⟩
  iapply Hk
  isplitl [HE]; · iexact HE
  isplitl [H1 H2]
  · isplitl [H1]; · iexact H1
    iexact H2
  iexact HT

/-- The last hop. -/
theorem st_lasts (K : Dev nD × CK → ℕ) (c : Dev nD) (s₀ : Fin 4) (Q : PUnit → sProp 𝕄) :
    iprop(ctx A B K ∗ env A B c s₀ 24 ∗ row c true 3 ∗ row c false 3 ∗ oP A B c 0)
      ⊢ iprop(((env A B c 3 24 ∗ row c true 4 ∗ row c false 4 ∗ oP A B c 8) -∗ Q ⟨⟩) -∗ wpB c (last c) Q) := by
  unfold last
  simp only [wp_bind, row_eq]
  iintro ⟨#Hc, HE, ⟨H10, H11, H12, H13⟩, ⟨H20, H21, H22, H23⟩, HT⟩ Hk
  iapply (st_stages A B K c s₀ 3 24 _) $$ [HE]
  · isplitr; · iexact Hc
    iexact HE
  iintro HE
  iapply (last_pair A B K c 0 0 rfl _) $$ [HE H10 H20 HT]
  · isplitr; · iexact Hc
    isplitl [HE]; · iexact HE
    isplitl [H10 H20]
    · isplitl [H10]; · iexact H10
      iexact H20
    iexact HT
  iintro ⟨HE, ⟨H10, H20⟩, HT⟩
  iapply (last_pair A B K c 1 2 rfl _) $$ [HE H11 H21 HT]
  · isplitr; · iexact Hc
    isplitl [HE]; · iexact HE
    isplitl [H11 H21]
    · isplitl [H11]; · iexact H11
      iexact H21
    iexact HT
  iintro ⟨HE, ⟨H11, H21⟩, HT⟩
  iapply (last_pair A B K c 2 4 rfl _) $$ [HE H12 H22 HT]
  · isplitr; · iexact Hc
    isplitl [HE]; · iexact HE
    isplitl [H12 H22]
    · isplitl [H12]; · iexact H12
      iexact H22
    iexact HT
  iintro ⟨HE, ⟨H12, H22⟩, HT⟩
  iapply (last_pair A B K c 3 6 rfl _) $$ [HE H13 H23 HT]
  · isplitr; · iexact Hc
    isplitl [HE]; · iexact HE
    isplitl [H13 H23]
    · isplitl [H13]; · iexact H13
      iexact H23
    iexact HT
  iintro ⟨HE, ⟨H13, H23⟩, HT⟩
  iapply Hk
  isplitl [HE]; · iexact HE
  isplitl [H10 H11 H12 H13]
  · isplitl [H10]; · iexact H10
    isplitl [H11]; · iexact H11
    isplitl [H12]; · iexact H12
    iexact H13
  isplitl [H20 H21 H22 H23]
  · isplitl [H20]; · iexact H20
    isplitl [H21]; · iexact H21
    isplitl [H22]; · iexact H22
    iexact H23
  iexact HT

/-! ## The body -/

/-- Both directions of a segment of the first chunk. -/
theorem first_pair (K : Dev nD × CK → ℕ) (c : Dev nD) (j : Fin 4) (k : ℕ) (hk : 2 * j.val = k) (Q : PUnit → sProp 𝕄) :
    iprop(ctx A B K ∗ env A B c 0 k ∗ col c true 0 j ∗ col c false 0 j)
      ⊢ iprop(((env A B c 0 (k + 2) ∗ col c true 1 j ∗ col c false 1 j) -∗ Q ⟨⟩)
        -∗ wpB c (firstD c true j) (fun _ => wpB c (firstD c false j) Q)) := by
  have hk1 : ord (true, 0, j) = k := by rw [← hk]; unfold ord; simp
  have hk2 : ord (false, 0, j) = k + 1 := by rw [← hk]; unfold ord; simp
  unfold env
  iintro ⟨#Hc, ⟨HA, HB, HS1, HS2, Hv1, Hv2, HO⟩, H1, H2⟩ Hk
  iapply (first_col A B K c true j k hk1 _) $$ [HB HS1 H1 HO]
  · isplitr; · iexact Hc
    isplitl [HB]; · iexact HB
    isplitl [HS1]; · iexact HS1
    isplitl [H1]; · iexact H1
    iexact HO
  iintro ⟨HB, HS1, H1, HO⟩
  iapply (first_col A B K c false j (k + 1) hk2 _) $$ [HB HS2 H2 HO]
  · isplitr; · iexact Hc
    isplitl [HB]; · iexact HB
    isplitl [HS2]; · iexact HS2
    isplitl [H2]; · iexact H2
    iexact HO
  iintro ⟨HB, HS2, H2, HO⟩
  iapply Hk
  isplitr [H1 H2]
  · isplitl [HA]; · iexact HA
    isplitl [HB]; · iexact HB
    isplitl [HS1]; · iexact HS1
    isplitl [HS2]; · iexact HS2
    isplitl [Hv1]; · iexact Hv1
    isplitl [Hv2]; · iexact Hv2
    iexact HO
  isplitl [H1]; · iexact H1
  iexact H2

/-- What a device's body takes, -/
def bodyIn (c : Dev nD) : sProp 𝕄 :=
  iprop((mine c true ∗ mine c false ∗ dutyTok ER (barCell (fr true c)) 0 true ∗ dutyTok ER (barCell (fr false c)) 0 false
      ∗ atPos ER (barCell c) 0 ∅ 0 ∗ cred (tallyAt (barCell c) () 2) ∗ ∃ W, owes (c : Thread nD τ) (O₀ c) W)
    ∗ aP A c ∗ bP B c ∗ (∃ a, stgP c true a) ∗ (∃ a, stgP c false a)
    ∗ semVal ((c : Thread nD τ), SemLoc.dma (cpM true)) 0 ∗ semVal ((c : Thread nD τ), SemLoc.dma (cpM false)) 0
    ∗ bigSep Finset.univ (own0 c true) ∗ bigSep Finset.univ (own0 c false) ∗ oP A B c 0)

/-- and leaves. -/
def bodyOut (c : Dev nD) : sProp 𝕄 :=
  iprop(env A B c 3 24 ∗ semVal (barCell c) 0 ∗ row c true 4 ∗ row c false 4 ∗ oP A B c 8)

omit [FloatOps F] in
theorem row_zero (c : Dev nD) (d : Bool) : iprop(bigSep Finset.univ (own0 c d) ∗ barPay c d) ⊢ (row c d 0 : sProp 𝕄) := by
  unfold row barPay
  exact Entails.of_eq (bigSep_sep' Finset.univ _ _).symm

/-- The body. -/
theorem st_body (K : Dev nD × CK → ℕ) (c : Dev nD) (Q : PUnit → sProp 𝕄) :
    iprop(ctx A B K ∗ bodyIn A B c) ⊢ iprop((bodyOut A B c -∗ Q ⟨⟩) -∗ wpB c body Q) := by
  unfold body bodyIn bodyOut
  simp only [wp_bind, Prog.lift, wp_deviceId, wp_ret]
  iintro ⟨#Hc, Hst, HA, HB, ⟨%a1, HS1⟩, ⟨%a2, HS2⟩, Hv1, Hv2, Ho1, Ho2, HT⟩ Hk
  imodintro
  iapply (st_start A B K c _) $$ [Hst]
  · isplitr; · iexact Hc
    iexact Hst
  iintro ⟨Hp1, Hp2, Hz, HO⟩
  ihave HR1 := (row_zero c true) $$ [Ho1 Hp1]
  · isplitl [Ho1]; · iexact Ho1
    iexact Hp1
  ihave HR2 := (row_zero c false) $$ [Ho2 Hp2]
  · isplitl [Ho2]; · iexact Ho2
    iexact Hp2
  icases (Entails.of_eq (row_eq c true 0)) $$ HR1 with ⟨H10, H11, H12, H13⟩
  icases (Entails.of_eq (row_eq c false 0)) $$ HR2 with ⟨H20, H21, H22, H23⟩
  iapply (st_stage A B K c true 0 0 _ _) $$ [HA HS1 Hv1 HO]
  · isplitr; · iexact Hc
    isplitl [HA]; · iexact HA
    isplitl [HS1]; · iexact HS1
    isplitl [Hv1]; · iexact Hv1
    iexact HO
  iintro ⟨HA, HS1, Hv1, HO⟩
  iapply (first_col A B K c true 0 0 rfl _) $$ [HB HS1 H10 HO]
  · isplitr; · iexact Hc
    isplitl [HB]; · iexact HB
    isplitl [HS1]; · iexact HS1
    isplitl [H10]; · iexact H10
    iexact HO
  iintro ⟨HB, HS1, H10, HO⟩
  iapply (st_stage A B K c false 0 1 _ _) $$ [HA HS2 Hv2 HO]
  · isplitr; · iexact Hc
    isplitl [HA]; · iexact HA
    isplitl [HS2]; · iexact HS2
    isplitl [Hv2]; · iexact Hv2
    iexact HO
  iintro ⟨HA, HS2, Hv2, HO⟩
  iapply (first_col A B K c false 0 1 rfl _) $$ [HB HS2 H20 HO]
  · isplitr; · iexact Hc
    isplitl [HB]; · iexact HB
    isplitl [HS2]; · iexact HS2
    isplitl [H20]; · iexact H20
    iexact HO
  iintro ⟨HB, HS2, H20, HO⟩
  ihave HE : env A B c 0 2 $$ [HA HB HS1 HS2 Hv1 Hv2 HO]
  · unfold env
    isplitl [HA]; · iexact HA
    isplitl [HB]; · iexact HB
    isplitl [HS1]; · iexact HS1
    isplitl [HS2]; · iexact HS2
    isplitl [Hv1]; · iexact Hv1
    isplitl [Hv2]; · iexact Hv2
    iexact HO
  iapply (first_pair A B K c 1 2 rfl _) $$ [HE H11 H21]
  · isplitr; · iexact Hc
    isplitl [HE]; · iexact HE
    isplitl [H11]; · iexact H11
    iexact H21
  iintro ⟨HE, H11, H21⟩
  iapply (first_pair A B K c 2 4 rfl _) $$ [HE H12 H22]
  · isplitr; · iexact Hc
    isplitl [HE]; · iexact HE
    isplitl [H12]; · iexact H12
    iexact H22
  iintro ⟨HE, H12, H22⟩
  iapply (first_pair A B K c 3 6 rfl _) $$ [HE H13 H23]
  · isplitr; · iexact Hc
    isplitl [HE]; · iexact HE
    isplitl [H13]; · iexact H13
    iexact H23
  iintro ⟨HE, H13, H23⟩
  ihave HR1 := (Entails.of_eq (row_eq c true 1).symm) $$ [H10 H11 H12 H13]
  · isplitl [H10]; · iexact H10
    isplitl [H11]; · iexact H11
    isplitl [H12]; · iexact H12
    iexact H13
  ihave HR2 := (Entails.of_eq (row_eq c false 1).symm) $$ [H20 H21 H22 H23]
  · isplitl [H20]; · iexact H20
    isplitl [H21]; · iexact H21
    isplitl [H22]; · iexact H22
    iexact H23
  iapply (st_hop A B K c 0 (by decide) 0 1 8 rfl (fun _ _ => rfl) _) $$ [HE HR1 HR2]
  · isplitr; · iexact Hc
    isplitl [HE]; · iexact HE
    isplitl [HR1]; · iexact HR1
    iexact HR2
  iintro ⟨HE, HR1, HR2⟩
  iapply (st_hop A B K c 1 (by decide) 1 2 16 rfl (fun _ _ => rfl) _) $$ [HE HR1 HR2]
  · isplitr; · iexact Hc
    isplitl [HE]; · iexact HE
    isplitl [HR1]; · iexact HR1
    iexact HR2
  iintro ⟨HE, HR1, HR2⟩
  iapply (st_lasts A B K c 2 _) $$ [HE HR1 HR2 HT]
  · isplitr; · iexact Hc
    isplitl [HE]; · iexact HE
    isplitl [HR1]; · iexact HR1
    isplitl [HR2]; · iexact HR2
    iexact HT
  iintro ⟨HE, HR1, HR2, HT⟩
  iapply Hk
  isplitl [HE]; · iexact HE
  isplitl [Hz]; · iexact Hz
  isplitl [HR1]; · iexact HR1
  isplitl [HR2]; · iexact HR2
  iexact HT

end Cert.KernelIdeal.Ring

end
-- ==== Proof.Deal.lean ====
/-
  What the launch deals: every cell's invariant, and to each device its positions, the tokens of the duties it pays, and the credit that the others
  owe it.
-/
module

public import proofs.«01_k».proof.Proof.Body
public import Idealize.ShloMosaic.Lib.Pipeline.CollectiveSegs

@[expose] public section

set_option synthInstance.maxSize 4096

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → (main_arg0 : Ref sig .tc).ty.Contents (Elt F)) (B : Dev nD → Vec F S1536x3072 .f32)

/-! ## Families -/

omit [FloatOps F] in
/-- A family over an optional index. -/
theorem bigSep_opt {I : Type} [Fintype I] (Φ : Option I → sProp 𝕄) :
    bigSep Finset.univ Φ = iprop(Φ none ∗ bigSep Finset.univ fun i => Φ (some i)) := by
  rw [BI.bigSep_univ_equiv ((Equiv.sumComm _ _).trans (Equiv.optionEquivSumPUnit.{0, 0} I).symm) Φ, BI.bigSep_univ_sum,
    BI.bigSep_univ_of_subsingleton PUnit.unit]
  rfl

/-- A transfer's place among a device's cells, by direction, segment, hop and end. -/
def xEquiv : Bool × Fin 4 × Fin 3 × Bool ≃ X where
  toFun x := (x.1, x.2.2.2, x.2.2.1, x.2.1)
  invFun x := (x.1, x.2.2.2, x.2.2.1, x.2.1)
  left_inv _ := rfl
  right_inv _ := rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_bool (Φ : Bool → sProp 𝕄) : bigSep Finset.univ Φ = iprop(Φ true ∗ Φ false) := bigSep_univ_eq_bigSepL [true, false] (by decide) (by decide) Φ

omit [FloatOps F] in
/-- A family over a device's transfers' cells, by direction, segment and hop. -/
theorem bigSep_X (Φ : X → sProp 𝕄) : bigSep Finset.univ Φ
    = bigSep Finset.univ fun d : Bool => bigSep Finset.univ fun j : Fin 4 => bigSep Finset.univ fun h : Fin 3 =>
        iprop(Φ (d, true, h, j) ∗ Φ (d, false, h, j)) := by
  rw [BI.bigSep_univ_equiv xEquiv Φ, BI.bigSep_univ_prod]
  refine bigSep_congr fun d _ => ?_
  rw [BI.bigSep_univ_prod]
  refine bigSep_congr fun j _ => ?_
  rw [BI.bigSep_univ_prod]
  exact bigSep_congr fun h _ => bigSep_bool _

/-! ## The tokens -/

/-- A duty on a device's cells: a neighbour's signal, or one end of a transfer. -/
abbrev I : Type := Bool ⊕ X

/-- A device's duties' tokens as minted. -/
def tokOf (ci : Dev nD × I) : GSem nD τ sig × ℕ × Bool := match ci.2 with
  | .inl d => (barCell ci.1, 0, d)
  | .inr x => (kcell (ci.1, some x), 0, false)
theorem tokOf_inj : Function.Injective tokOf := by
  rintro ⟨c, i⟩ ⟨c', i'⟩ h
  have h1 := congrArg Prod.fst h
  have h2 := congrArg (fun x => x.2.2) h
  cases i <;> cases i' <;> simp only [tokOf] at h1 h2 <;> have h3 := kcell_inj h1 <;> simp only [Prod.mk.injEq, Option.some.injEq, reduceCtorEq, and_false] at h3
  · rw [h3.1, h2]
  · rw [h3.1, h3.2]

def ringCells : Finset (GSem nD τ sig) := Finset.univ.map ⟨kcell, kcell_inj⟩
def ringToks : Finset (GSem nD τ sig × ℕ × Bool) := Finset.univ.map ⟨tokOf, tokOf_inj⟩

/-- A duty's token. -/
def tokP (ci : Dev nD × I) : sProp 𝕄 := dutyTok ER (tokOf ci).1 (tokOf ci).2.1 (tokOf ci).2.2

/-- Which device's duty a device pays. -/
def payer : I → Dev nD → Dev nD
  | .inl d, c => fr d c
  | .inr (d, true, _, _), c => nb d c
  | .inr (_, false, _, _), c => c
def payer' : I → Dev nD → Dev nD
  | .inl d, c => nb d c
  | .inr (d, true, _, _), c => fr d c
  | .inr (_, false, _, _), c => c
def payE : Dev nD × I ≃ Dev nD × I where
  toFun ci := (payer ci.2 ci.1, ci.2)
  invFun ci := (payer' ci.2 ci.1, ci.2)
  left_inv := by
    rintro ⟨c, d | ⟨d, _ | _, h, j⟩⟩
    · exact Prod.ext (nb_fr d c) rfl
    · rfl
    · exact Prod.ext (fr_nb d c) rfl
  right_inv := by
    rintro ⟨c, d | ⟨d, _ | _, h, j⟩⟩
    · exact Prod.ext (fr_nb d c) rfl
    · rfl
    · exact Prod.ext (nb_fr d c) rfl

/-- The tokens a device pays with. -/
def payToks (c : Dev nD) : sProp 𝕄 := bigSep Finset.univ fun i : I => tokP (payE (c, i))

omit [FloatOps F] in
/-- The tokens minted for each device's cells, dealt to the devices that pay. -/
theorem toks_around : (bigSep Finset.univ fun c : Dev nD => bigSep Finset.univ fun i : I => (tokP (c, i) : sProp 𝕄))
    = bigSep Finset.univ fun c : Dev nD => payToks c := by
  rw [← BI.bigSep_univ_prod (fun ci : Dev nD × I => (tokP ci : sProp 𝕄)), BI.bigSep_univ_equiv payE, BI.bigSep_univ_prod]; rfl

omit [FloatOps F] in
theorem payToks_eq (c : Dev nD) : (payToks c : sProp 𝕄)
    = iprop((dutyTok ER (barCell (fr true c)) 0 true ∗ dutyTok ER (barCell (fr false c)) 0 false)
      ∗ bigSep Finset.univ fun d : Bool => bigSep Finset.univ fun j : Fin 4 => bigSep Finset.univ fun h : Fin 3 =>
        iprop(dutyTok ER (rcvCell (nb d c) d h j) 0 false ∗ dutyTok ER (sndCell c d h j) 0 false)) := by
  unfold payToks
  rw [BI.bigSep_univ_sum, bigSep_bool, bigSep_X]
  rfl

/-! ## The launch's ghost state -/

/-- The launch element: the pipeline's, and the ring's. -/
def u₀ : UU :=
  (initOf (Pipeline.cells cfgs cellOf_inj) (Pipeline.launchToks cfgs cellOf_inj), (initOf ringCells ringToks, 1))

/-- What the launch element deals device `c`. -/
def G (c : Dev nD) : sProp 𝕄 :=
  iprop((bigSep Finset.univ fun k : CK => roundState ER (ringRd A B) (kcell (c, k)) 0)
    ∗ (bigSep Finset.univ fun k : CK => iprop(atPos ER (kcell (c, k)) 0 ∅ 0 ∗ reached ER (kcell (c, k)) 0))
    ∗ bigSep Finset.univ fun i : I => tokP (c, i))

theorem fund_ring : BI.own (ER (initOf ringCells ringToks)) ⊢ (|==> bigSep Finset.univ (G A B) : sProp 𝕄) := by
  have hX (Φ : GSem nD τ sig → sProp 𝕄) : bigSep ringCells Φ = bigSep Finset.univ fun c : Dev nD => bigSep Finset.univ fun k : CK => Φ (kcell (c, k)) := by
    unfold ringCells; rw [BI.bigSep_map, BI.bigSep_univ_prod]; rfl
  have hT : bigSep ringToks (fun x => (dutyTok ER x.1 x.2.1 x.2.2 : sProp 𝕄))
      = bigSep Finset.univ fun c : Dev nD => bigSep Finset.univ fun i : I => tokP (c, i) := by
    unfold ringToks; rw [BI.bigSep_map, BI.bigSep_univ_prod]; rfl
  iintro HX
  imod (Rounds.fund ER (ringRd A B) ringCells ringToks) $$ HX with ⟨Hst, Hr, Hat, Htok⟩
  imodintro
  ihave Hst := (Entails.of_eq (hX fun g => roundState ER (ringRd A B) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The kernel's own semaphores: its two local copies', and its transfers'. -/
abbrev osem : I → SemLoc sig
  | .inl d => .dma (cpM d)
  | .inr x => csem (some x)

/-- The local copies' semaphores of a device, at zero. -/
def cps (c : Dev nD) : sProp 𝕄 := iprop(semVal ((c : Thread nD τ), SemLoc.dma (cpM true)) 0 ∗ semVal ((c : Thread nD τ), SemLoc.dma (cpM false)) 0)

omit [FloatOps F] in
theorem ownSems0_eq (c : Dev nD) : (Pipeline.ownSems0 (Ix := Unit) (Name := ℕ) (U := UU) (Lvl := ℕ) (Val := Elt F) (τ := τ) osem c : sProp 𝕄)
    = iprop(cps c ∗ bigSep Finset.univ fun x : X => semVal (kcell (c, some x)) 0) := by
  unfold Pipeline.ownSems0 cps
  rw [BI.bigSep_univ_sum, bigSep_bool]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k : CK => iprop(∃ κ : ℕ, cellInv ER (ringRd A B) κ (kcell (c, k))))
          ∗ (bigSep Finset.univ fun k : CK => iprop(atPos ER (kcell (c, k)) 0 ∅ 0 ∗ reached ER (kcell (c, k)) 0))
          ∗ (bigSep Finset.univ fun i : I => tokP (c, i)) ∗ cps c) := by
  unfold G
  rw [ownSems0_eq, unscopedSems0_eq]
  iintro ⟨⟨Hcp, Hx⟩, Hb, Hst, Hat, Htok⟩
  ihave Hv := (Entails.of_eq (bigSep_opt fun k : CK => (semVal (kcell (c, k)) 0 : sProp 𝕄)).symm) $$ [Hx Hb]
  · isplitl [Hb] <;> iassumption
  imod (show iprop((bigSep Finset.univ fun k : CK => semVal (kcell (c, k)) 0) ∗ bigSep Finset.univ fun k : CK => roundState ER (ringRd A B) (kcell (c, k)) 0)
      ⊢ (|={Set.univ}=> bigSep Finset.univ fun k : CK => iprop(∃ κ : ℕ, cellInv ER (ringRd A B) κ (kcell (c, k))) : sProp 𝕄) from by
        rw [← bigSep_sep']
        exact (BI.bigSep_mono fun k _ => (Rounds.body_intro ER (ringRd A B) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hcp

/-- Every cell's invariant, and that it is at its round. -/
def recs (K : Dev nD × CK → ℕ) : sProp 𝕄 :=
  bigSep Finset.univ fun ck : Dev nD × CK => iprop(cellInv ER (ringRd A B) (K ck) (kcell ck) ∗ reached ER (kcell ck) 0)
instance recs_persistent (K : Dev nD × CK → ℕ) : BI.Persistent (recs A B K) := by unfold recs; infer_instance

/-- What a device alone has of it. -/
def linear (c : Dev nD) : sProp 𝕄 := iprop((bigSep Finset.univ fun k : CK => atPos ER (kcell (c, k)) 0 ∅ 0) ∗ payToks c ∗ cps c)
/-- What the launch makes for device `c`. -/
def G' (c : Dev nD) : sProp 𝕄 := iprop(∃ K, recs A B K ∗ linear c)

theorem regroup :
    (bigSep Finset.univ fun c : Dev nD => iprop((bigSep Finset.univ fun k : CK => iprop(∃ κ : ℕ, cellInv ER (ringRd A B) κ (kcell (c, k))))
          ∗ (bigSep Finset.univ fun k : CK => iprop(atPos ER (kcell (c, k)) 0 ∅ 0 ∗ reached ER (kcell (c, k)) 0))
          ∗ (bigSep Finset.univ fun i : I => tokP (c, i)) ∗ cps c) : sProp 𝕄)
      ⊢ bigSep Finset.univ (G' A B) := by
  rw [bigSep_sep', bigSep_sep', bigSep_sep', toks_around, ← BI.bigSep_univ_prod (fun ck : Dev nD × CK => iprop(∃ κ : ℕ, cellInv ER (ringRd A B) κ (kcell ck))),
    BI.bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← BI.bigSep_univ_prod (fun ck : Dev nD × CK => (reached ER (kcell ck) 0 : sProp 𝕄))]
  iintro ⟨HI, ⟨Hat, #HR⟩, Htok, Hcp⟩
  ihave HK := (BI.bigSep_exists_pi Finset.univ (fun (ck : Dev nD × CK) (κ : ℕ) => (cellInv ER (ringRd A B) κ (kcell ck) : sProp 𝕄))) $$ HI
  icases HK with ⟨%K, #HI⟩
  iapply (bigSep_with_persistent (R := recs A B K) (Φ := linear) fun c _ => by
    unfold G'; iintro ⟨H1, H2⟩; iexists K; isplitl [H1] <;> iassumption)
  isplitr
  · unfold recs
    iapply (Entails.of_eq (bigSep_sep' Finset.univ _ _).symm)
    isplitl; · iexact HI
    iexact HR
  · unfold linear
    rw [bigSep_sep', bigSep_sep']
    isplitl [Hat]; · iexact Hat
    isplitl [Htok]; · iexact Htok
    iexact Hcp

/-- The launch's one step for all devices. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((BI.bigSep_mono fun c _ => core_alloc A B c).trans (bigSep_fupd _ _)).trans (BI.fupd_mono (regroup A B))

/-! ## The launch's credit -/

theorem nb_iff (d : Bool) (a c : Dev nD) : (c = nb d a) ↔ (a = fr d c) :=
  ⟨fun h => by rw [h, fr_nb], fun h => by rw [h, nb_fr]⟩

/-- What device `a` owes a receive cell of device `c`, -/
theorem owed_rcv (a c : Dev nD) (d : Bool) (h : Fin 3) (j : Fin 4) : O₀ a (rcvCell c d h j) () = if a = fr d c then N else 0 := by
  have hb : ∀ e : Bool, (tallyAt (barCell (nb e a)) () 1 : CellTallies nD τ sig Unit) (rcvCell c d h j) () = 0 := fun e => by
    rw [tallyAt_apply, if_neg]
    rintro ⟨h1, -⟩
    exact absurd (congrArg Prod.snd (kcell_inj h1)) (by simp)
  unfold O₀ O₁ Ow
  rw [Pi.add_apply, Finsupp.add_apply, Pi.add_apply, Finsupp.add_apply, hb, hb, Nat.add_zero, Finset.sum_apply, Finsupp.finset_sum_apply,
    Finset.sum_eq_single (d, h, j)]
  · unfold rcvTally
    rw [tallyAt_apply]
    refine if_congr ⟨fun ⟨h1, _⟩ => (nb_iff d a c).mp (congrArg Prod.fst (kcell_inj h1)), fun h1 => ⟨?_, rfl⟩⟩ rfl rfl
    rw [← (nb_iff d a c).mpr h1]
  · rintro ⟨d', h', j'⟩ - hne
    unfold rcvTally
    rw [tallyAt_apply, if_neg]
    rintro ⟨h1, -⟩
    have h2 := congrArg Prod.snd (kcell_inj h1)
    simp only [Option.some.injEq, Prod.mk.injEq, true_and] at h2
    exact hne (by rw [h2.1, h2.2.1, h2.2.2])
  · intro hn
    exact absurd (show (d, h, j) ∈ rem 0 from Finset.mem_filter.mpr ⟨Finset.mem_univ _, Nat.zero_le _⟩) hn

/-- and its barrier cell. -/
theorem owed_bar (a c : Dev nD) : O₀ a (barCell c) () = (if a = fr true c then 1 else 0) + (if a = fr false c then 1 else 0) := by
  have hb : ∀ e : Bool, (tallyAt (barCell (nb e a)) () 1 : CellTallies nD τ sig Unit) (barCell c) () = if a = fr e c then 1 else 0 := fun e => by
    rw [tallyAt_apply]
    refine if_congr ⟨fun ⟨h1, _⟩ => (nb_iff e a c).mp (congrArg Prod.fst (kcell_inj h1)), fun h1 => ⟨?_, rfl⟩⟩ rfl rfl
    rw [← (nb_iff e a c).mpr h1]
  unfold O₀ O₁ Ow
  rw [Pi.add_apply, Finsupp.add_apply, Pi.add_apply, Finsupp.add_apply, hb, hb, Finset.sum_apply, Finsupp.finset_sum_apply, Finset.sum_eq_zero, Nat.zero_add]
  rintro y -
  unfold rcvTally
  rw [tallyAt_apply, if_neg]
  rintro ⟨h1, -⟩
  exact absurd (congrArg Prod.snd (kcell_inj h1)) (by simp)

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun a _ => owed_bar a c, Finset.sum_add_distrib,
    Finset.sum_ite_eq' Finset.univ (fr true c) fun _ => 1, Finset.sum_ite_eq' Finset.univ (fr false c) fun _ => 1, if_pos (Finset.mem_univ _), if_pos (Finset.mem_univ _)]
theorem launch_rcv (c : Dev nD) (d : Bool) (h : Fin 3) (j : Fin 4) :
    tallyOn (rcvCell c d h j) (launchCredit (Pipeline.owing O₀) 0 (rcvCell c d h j)) = (tallyAt (rcvCell c d h j) () N : CellTallies nD τ sig Unit) := by
  unfold tallyAt; refine congrArg _ (Finsupp.ext fun u => ?_); cases u
  rw [Pipeline.launchCredit_owing, Finsupp.single_eq_same, Finset.sum_congr rfl fun a _ => owed_rcv a c d h j,
    Finset.sum_ite_eq' Finset.univ (fr d c) fun _ => N, if_pos (Finset.mem_univ _)]

/-- The cells that other devices pay. -/
def paid : Option (Bool × Fin 4 × Fin 3) → CK
  | none => none
  | some (d, j, h) => some (d, true, h, j)
abbrev paidSem (o : Option (Bool × Fin 4 × Fin 3)) : SemLoc sig := csem (paid o)
theorem paidSem_inj : Function.Injective paidSem := by
  rintro (_ | ⟨d, j, h⟩) (_ | ⟨d', j', h'⟩) he <;> have h1 := csem_inj he <;> simp only [paid, reduceCtorEq, Option.some.injEq, Prod.mk.injEq, true_and] at h1
  · rfl
  · rw [h1.1, h1.2.1, h1.2.2]

omit [FloatOps F] in
/-- A device's launch credit: two signals, and every transfer that arrives. -/
theorem creds (c : Dev nD) :
    (Pipeline.launchCred O₀ c : sProp 𝕄) ⊢ iprop(cred (tallyAt (barCell c) () 2)
      ∗ bigSep Finset.univ fun d : Bool => bigSep Finset.univ fun j : Fin 4 => bigSep Finset.univ fun h : Fin 3 => cred (tallyAt (rcvCell c d h j) () N)) := by
  have e : (iprop(cred (tallyAt (barCell c) () 2)
      ∗ bigSep Finset.univ fun d : Bool => bigSep Finset.univ fun j : Fin 4 => bigSep Finset.univ fun h : Fin 3 => cred (tallyAt (rcvCell c d h j) () N)) : sProp 𝕄)
      = bigSep (Finset.univ.map ⟨paidSem, paidSem_inj⟩) fun sm : SemLoc sig =>
        cred (tallyOn ((c.tc : Thread nD τ), sm) (launchCredit (Pipeline.owing O₀) 0 ((c.tc : Thread nD τ), sm))) := by
    rw [BI.bigSep_map, bigSep_opt, BI.bigSep_univ_prod]
    congr 1
    · exact congrArg _ (launch_bar c).symm
    · refine BI.bigSep_congr fun d _ => ?_
      rw [BI.bigSep_univ_prod]
      exact BI.bigSep_congr fun j _ => BI.bigSep_congr fun h _ => congrArg _ (launch_rcv c d h j).symm
  rw [e]
  unfold Pipeline.launchCred
  exact BI.bigSep_subset (Finset.subset_univ _)

end Cert.KernelIdeal.Ring

end
-- ==== Proof.Slots.lean ====
/-
  A device's buffers at launch and at the end: whole, and cut into what the body's protocol moves; and the result's contents from its eight segments.
-/
module

public import proofs.«01_k».proof.Proof.Deal
public import Idealize.ShloMosaic.Lib.Ring.FamCut

@[expose] public section

set_option synthInstance.maxSize 4096

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (restOf fam_split_ex fam_join)

variable {F : FTy → Type} [FloatOps F]

local notation "𝕄" => MT nD τ sig Unit (Elt F) ℕ UU ℕ

variable (A : Dev nD → (main_arg0 : Ref sig .tc).ty.Contents (Elt F)) (B : Dev nD → Vec F S1536x3072 .f32)

/-! ## The slots of a buffer -/

/-- The elements of a slot's segment. -/
def slotS (d : Bool) (c : Dev nD) (x : Fin 4 × Fin 3) : Finset (Idx ((bufM d).view.loc (c : Thread nD τ))) := (slotM d x.2 x.1).view.set

theorem slotS_disjoint (d : Bool) (c : Dev nD) (x x' : Fin 4 × Fin 3) (hne : x ≠ x') : Disjoint (slotS d c x) (slotS d c x') := by
  obtain ⟨j, r⟩ := x
  obtain ⟨j', r'⟩ := x'
  refine Finset.disjoint_left.mpr fun i hi hi' => hne ?_
  unfold slotS at hi hi'
  rw [slotM_set] at hi hi'
  have hr : ∀ (r : Fin 3) (j : Fin 4), i ∈ ((bufM d).access (slotR r j)).set → ∃ y : (slotR r j).shape.Idx, ((bufM d).access (slotR r j)).emb y = i := fun r j h => by
    obtain ⟨y, -, hy⟩ := Finset.mem_map.mp h; exact ⟨y, hy⟩
  obtain ⟨y, hy⟩ := hr r j hi
  obtain ⟨y', hy'⟩ := hr r' j' hi'
  have h := hy.trans hy'.symm
  have b0 : (y 0).val < 1 := (y 0).isLt
  have b0' : (y' 0).val < 1 := (y' 0).isLt
  have b1 : (y 1).val < 96 := (y 1).isLt
  have b1' : (y' 1).val < 96 := (y' 1).isLt
  have h0 : r.val + 1 * (y 0).val = r'.val + 1 * (y' 0).val := by
    cases d <;> exact congrArg (fun i : S3x384x3072.Idx => (i 0).val) h
  have h1 : 96 * j.val + 1 * (y 1).val = 96 * j'.val + 1 * (y' 1).val := by
    cases d <;> exact congrArg (fun i : S3x384x3072.Idx => (i 1).val) h
  exact Prod.ext (Fin.ext (by show j.val = j'.val; omega)) (Fin.ext (by show r.val = r'.val; omega))

/-- A device's buffer of direction `d`, whole; -/
def bufE (c : Dev nD) (d : Bool) : sProp 𝕄 := iprop(∃ f, (bufM d).view.loc (c : Thread nD τ) ↦{fullShare} f)
/-- what the slots leave of it; -/
def bufRest (c : Dev nD) (d : Bool) : sProp 𝕄 := iprop(∃ f, (bufM d).view.loc (c : Thread nD τ) ↦[restOf (slotS d c)]{fullShare} f)
/-- all its slots. -/
def slots (c : Dev nD) (d : Bool) : sProp 𝕄 := bigSep Finset.univ fun j : Fin 4 => iprop(slotE d 0 j c ∗ slotE d 1 j c ∗ slotE d 2 j c)

omit [FloatOps F] in
theorem slots_eq (c : Dev nD) (d : Bool) : (slots c d : sProp 𝕄)
    = bigSep Finset.univ fun x : Fin 4 × Fin 3 => iprop(∃ f, (bufM d).view.loc (c : Thread nD τ) ↦[slotS d c x]{fullShare} f) := by
  unfold slots
  rw [BI.bigSep_univ_prod]
  refine BI.bigSep_congr fun j _ => ?_
  rw [bigSep_fin3]; rfl

omit [FloatOps F] in
/-- A buffer is its slots and the rest, -/
theorem buf_split (c : Dev nD) (d : Bool) : bufE c d ⊢ (iprop(slots c d ∗ bufRest c d) : sProp 𝕄) := by
  rw [slots_eq]
  exact fam_split_ex (slotS d c) (slotS_disjoint d c)
omit [FloatOps F] in
/-- and they the buffer. -/
theorem buf_join (c : Dev nD) (d : Bool) : iprop(slots c d ∗ bufRest c d) ⊢ (bufE c d : sProp 𝕄) := by
  rw [slots_eq]
  unfold bufRest bufE
  iintro ⟨H, ⟨%f, Hr⟩⟩
  iapply (fam_join (slotS d c) (slotS_disjoint d c) f)
  isplitl [H]; · iexact H
  iexists f; iexact Hr

omit [FloatOps F] in
/-- What a device starts its segments with: its slots and its tokens. -/
theorem slots_in (c : Dev nD) (d : Bool) : iprop(slots c d ∗ bigSep Finset.univ fun j : Fin 4 => bigSep Finset.univ fun h : Fin 3 => tk c d j h)
    ⊢ (iprop(mine c d ∗ bigSep Finset.univ (own0 c d)) : sProp 𝕄) := by
  have e : (bigSep Finset.univ (own0 c d) : sProp 𝕄) = iprop((bigSep Finset.univ fun j : Fin 4 => slotE d 0 j c)
      ∗ bigSep Finset.univ fun j : Fin 4 => bigSep Finset.univ fun h : Fin 3 => tk c d j h) := by
    rw [← bigSep_sep']
    refine BI.bigSep_congr fun j _ => ?_
    rw [bigSep_fin3]; rfl
  rw [e]
  unfold slots mine
  rw [bigSep_sep']
  iintro ⟨⟨H0, H12⟩, HT⟩
  isplitl [H12]; · iexact H12
  isplitl [H0]; · iexact H0
  iexact HT

omit [FloatOps F] in
/-- What it ends them with: its slots, and its transfers' semaphores at zero. -/
theorem row_out (c : Dev nD) (d : Bool) : row c d 4
    ⊢ (iprop(slots c d ∗ bigSep Finset.univ fun j : Fin 4 => bigSep Finset.univ fun h : Fin 3 => done c d h j) : sProp 𝕄) := by
  unfold slots
  rw [← bigSep_sep']
  unfold row
  refine BI.bigSep_mono fun j _ => ?_
  rw [bigSep_fin3]
  exact (Entails.of_eq rfl : (col c d 4 j : sProp 𝕄) ⊢ _)

omit [FloatOps F] in
/-- A device's transfers' semaphores at zero. -/
theorem dones (c : Dev nD) : iprop((bigSep Finset.univ fun j : Fin 4 => bigSep Finset.univ fun h : Fin 3 => done c true h j)
      ∗ bigSep Finset.univ fun j : Fin 4 => bigSep Finset.univ fun h : Fin 3 => done c false h j)
    ⊢ (bigSep Finset.univ fun x : X => semVal (kcell (c, some x)) 0 : sProp 𝕄) := by
  rw [bigSep_X, ← bigSep_bool fun d => (bigSep Finset.univ fun j : Fin 4 => bigSep Finset.univ fun h : Fin 3 => done c d h j : sProp 𝕄)]
  refine BI.bigSep_mono fun d _ => BI.bigSep_mono fun j _ => BI.bigSep_mono fun h _ => ?_
  show (_ : sProp 𝕄) ⊢ _
  unfold done
  iintro ⟨H1, H2⟩
  isplitl [H2]; · iexact H2
  iexact H1

omit [FloatOps F] in
/-- A device's positions, tokens and credit, transfer by transfer. -/
theorem toks_in (c : Dev nD) :
    iprop((bigSep Finset.univ fun k : CK => atPos ER (kcell (c, k)) 0 ∅ 0) ∗ payToks c
      ∗ bigSep Finset.univ fun d : Bool => bigSep Finset.univ fun j : Fin 4 => bigSep Finset.univ fun h : Fin 3 => cred (tallyAt (rcvCell c d h j) () N))
    ⊢ (iprop((dutyTok ER (barCell (fr true c)) 0 true ∗ dutyTok ER (barCell (fr false c)) 0 false ∗ atPos ER (barCell c) 0 ∅ 0)
      ∗ bigSep Finset.univ fun d : Bool => bigSep Finset.univ fun j : Fin 4 => bigSep Finset.univ fun h : Fin 3 => tk c d j h) : sProp 𝕄) := by
  have e : (bigSep Finset.univ fun d : Bool => bigSep Finset.univ fun j : Fin 4 => bigSep Finset.univ fun h : Fin 3 =>
        iprop((atPos ER (rcvCell c d h j) 0 ∅ 0 ∗ atPos ER (sndCell c d h j) 0 ∅ 0)
          ∗ (dutyTok ER (rcvCell (nb d c) d h j) 0 false ∗ dutyTok ER (sndCell c d h j) 0 false) ∗ cred (tallyAt (rcvCell c d h j) () N)))
      ⊢ (bigSep Finset.univ fun d : Bool => bigSep Finset.univ fun j : Fin 4 => bigSep Finset.univ fun h : Fin 3 => tk c d j h : sProp 𝕄) := by
    refine BI.bigSep_mono fun d _ => BI.bigSep_mono fun j _ => BI.bigSep_mono fun h _ => ?_
    show (_ : sProp 𝕄) ⊢ _
    unfold tk sndTok wtTok
    iintro ⟨⟨H1, H2⟩, ⟨H3, H4⟩, H5⟩
    isplitl [H3 H4]
    · isplitl [H4]; · iexact H4
      iexact H3
    isplitl [H2]; · iexact H2
    isplitl [H1]; · iexact H1
    iexact H5
  rw [bigSep_opt, bigSep_X, payToks_eq]
  iintro ⟨⟨Hb, Ha⟩, ⟨⟨Ht1, Ht2⟩, Ht⟩, Hc⟩
  isplitl [Hb Ht1 Ht2]
  · isplitl [Ht1]; · iexact Ht1
    isplitl [Ht2]; · iexact Ht2
    iexact Hb
  iapply e
  simp only [bigSep_sep']
  icases Ha with ⟨Ha1, Ha2⟩
  icases Ht with ⟨Ht1, Ht2⟩
  isplitl [Ha1 Ha2]
  · isplitl [Ha1]; · iexact Ha1
    iexact Ha2
  isplitl [Ht1 Ht2]
  · isplitl [Ht1]; · iexact Ht1
    iexact Ht2
  iexact Hc

/-! ## The staged rows' buffers -/

omit [FloatOps F] in
theorem stg_open (c : Dev nD) (d : Bool) : iprop(∃ f, (stgM d).view.loc (c : Thread nD τ) ↦{fullShare} f) ⊢ (iprop(∃ a, stgP c d a) : sProp 𝕄) := by
  unfold stgP
  have hs : (stgM d).view.set = Finset.univ := by cases d <;> exact View.set_whole _
  rw [hs]
  iintro ⟨%f, H⟩
  iexists _; iexists f; isplitr
  · ipureintro; rfl
  iexact H
omit [FloatOps F] in
theorem stg_close (c : Dev nD) (d : Bool) (a : Vec F S384x1536 .f32) : stgP c d a ⊢ (iprop(∃ f, (stgM d).view.loc (c : Thread nD τ) ↦{fullShare} f) : sProp 𝕄) := by
  unfold stgP
  have hs : (stgM d).view.set = Finset.univ := by cases d <;> exact View.set_whole _
  rw [hs]
  iintro ⟨%f, -, H⟩
  iexists f; iexact H

/-! ## The result -/

/-- An element's place in its segment. -/
def outIx (i : S768x3072.Idx) : S96x3072.Idx := fun a => ⟨(![(i 0).val % 96, (i 1).val] : Fin 2 → ℕ) a, by
  have h1 : (i 1).val < 3072 := (i 1).isLt
  fin_cases a
  · exact Nat.mod_lt _ (by decide)
  · exact h1⟩

/-- Device `c`'s rows of the product. -/
def outAt (c : Dev nD) : (cc0_stg1_0 : Ref sig .tc).ty.Contents (Elt F) := fun i : S768x3072.Idx =>
  outv A B c (decide ((i 0).val < 384)) ⟨(i 0).val % 384 / 96, by omega⟩ (outIx i)

/-- Contents of which all eight segments are known are the device's rows of the product. -/
theorem out_ext (c : Dev nD) (f : (cc0_stg1_0 : Ref sig .tc).ty.Contents (Elt F))
    (h : ∀ d j, (oM.access (outR d j)).read (Elt F) f = outv A B c d j) : f = outAt A B c := by
  funext i
  have hi0 : ((i : S768x3072.Idx) 0).val < 768 := ((i : S768x3072.Idx) 0).isLt
  have hi := congrFun (h (decide (((i : S768x3072.Idx) 0).val < 384)) ⟨((i : S768x3072.Idx) 0).val % 384 / 96, by omega⟩) (outIx i)
  refine Eq.trans (congrArg f ?_) hi
  refine funext fun a => Fin.ext ?_
  fin_cases a
  · show ((i : S768x3072.Idx) 0).val = orow (decide (((i : S768x3072.Idx) 0).val < 384)) ⟨((i : S768x3072.Idx) 0).val % 384 / 96, by omega⟩ + 1 * (((i : S768x3072.Idx) 0).val % 96)
    unfold orow
    by_cases hlt : ((i : S768x3072.Idx) 0).val < 384
    · rw [decide_eq_true hlt]; simp only [cond_true]; omega
    · rw [decide_eq_false hlt]; simp only [cond_false]; omega
  · show ((i : S768x3072.Idx) 1).val = 0 + 1 * ((i : S768x3072.Idx) 1).val
    omega

/-- The result's buffer once every segment is written. -/
theorem oP_full (c : Dev nD) : oP A B c 8 ⊢ (iprop(((c : Thread nD τ).loc cc0_stg1_0) ↦{fullShare} outAt A B c) : sProp 𝕄) := by
  unfold oP
  iintro ⟨%f, %hf, H⟩
  have e := out_ext A B c f fun d j => hf d j (by revert d j; decide)
  subst e
  iexact H

end Cert.KernelIdeal.Ring

end
-- ==== Proof.BodyEq.lean ====
/-
  The printed body is the body written with the steps of `Prog`.
-/
module

public import proofs.«01_k».proof.Proof.Prog

@[expose] public section

set_option synthInstance.maxSize 4096

noncomputable section

namespace Cert.KernelIdeal.Ring

open Idealize.ShloMosaic Idealize.SL.Sem
open Cert.KernelIdeal.Gen

variable {F : FTy → Type} [FloatOps F]

set_option maxRecDepth 65536 in
set_option maxHeartbeats 2000000 in
/-- The printed body is `body`. -/
theorem body_eq : cc0_body_skel (F := F) aM (Memref.isWhole_whole _) bM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 = body := rfl

end Cert.KernelIdeal.Ring

end
-- ==== Proof.Run.lean ====
/-
  The run: at any float values every execution of the four devices' kernels ends, with every semaphore at zero, the arguments
  as they were, and each device's result holding `outAt`.
-/
module

public import proofs.«01_k».proof.Proof.Slots
public import proofs.«01_k».proof.Proof.BodyEq
public import Idealize.ShloMosaic.Lib.Pipeline.ValueKit.Geometry

@[expose] public section

set_option synthInstance.maxSize 4096

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The devices' first operands, as launched, -/
def Am (c : Dev nD) : (main_arg0 : Ref sig .tc).ty.Contents (Elt F) := m ((c : Thread nD τ).loc main_arg0)
/-- and their second, as staged. -/
def Bm (c : Dev nD) : Vec F S1536x3072 .f32 := (win0_0.blk t0_0).view.read (Elt F) (m ((c : Thread nD τ).loc main_arg1))

/-! ## What the pipeline carries around the body -/

/-- What a device starts from: the protocol's records and its tokens, its credit, its first operand. -/
def startP (c : Dev nD) : sProp 𝕄 :=
  iprop((∃ K, ctx (Am m) (Bm m) K ∗ linear c) ∗ cred (tallyAt (barCell c) () 2)
    ∗ (bigSep Finset.univ fun d : Bool => bigSep Finset.univ fun j : Fin 4 => bigSep Finset.univ fun h : Fin 3 => cred (tallyAt (rcvCell c d h j) () N))
    ∗ aP (Am m) c)

/-- A device's staged rows' buffer, whole. -/
def stgE (c : Dev nD) (d : Bool) : sProp 𝕄 := iprop(∃ f, (stgM d).view.loc (c : Thread nD τ) ↦{fullShare} f)

/-- Before the body: with the buffers the kernel works in. -/
def Φ₀ (c : Dev nD) : sProp 𝕄 := iprop(startP m c ∗ bufE c true ∗ bufE c false ∗ stgE c true ∗ stgE c false)

/-- After it: the buffers, cut, and every semaphore of the device at zero. -/
def Φ₁ (c : Dev nD) : sProp 𝕄 :=
  iprop(aP (Am m) c ∗ semVal (barCell c) 0 ∗ cps c ∗ row c true 4 ∗ row c false 4 ∗ bufRest c true ∗ bufRest c false ∗ stgE c true ∗ stgE c false)

def dats (_ : Fin 1) (c : Dev nD) : Dat τ (Elt F) Unit ℕ UU ℕ cfg0 c where
  A w := m ((cfg0.win w).arr.view.loc (c : Thread nD τ))
  after w _ := match w with
    | ⟨0, _⟩ => Bm m c
    | ⟨1, _⟩ => outAt (Am m) (Bm m) c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body between them -/

omit [FloatOps F] in
/-- What the body needs of what a device starts from. -/
theorem enter (c : Dev nD) :
    iprop(linear c ∗ (bigSep Finset.univ fun d : Bool => bigSep Finset.univ fun j : Fin 4 => bigSep Finset.univ fun h : Fin 3 => cred (tallyAt (rcvCell c d h j) () N))
      ∗ bufE c true ∗ bufE c false)
    ⊢ (iprop((dutyTok ER (barCell (fr true c)) 0 true ∗ dutyTok ER (barCell (fr false c)) 0 false ∗ atPos ER (barCell c) 0 ∅ 0) ∗ cps c
      ∗ ((mine c true ∗ bigSep Finset.univ (own0 c true)) ∗ mine c false ∗ bigSep Finset.univ (own0 c false))
      ∗ bufRest c true ∗ bufRest c false) : sProp 𝕄) := by
  unfold linear
  iintro ⟨⟨Ha, Hp, Hc⟩, Hcr, Ht, Hf⟩
  ihave H := (toks_in c) $$ [Ha Hp Hcr]
  · isplitl [Ha]; · iexact Ha
    isplitl [Hp] <;> iassumption
  rw [bigSep_bool fun d => (bigSep Finset.univ fun j : Fin 4 => bigSep Finset.univ fun h : Fin 3 => tk c d j h : sProp 𝕄)]
  icases H with ⟨Hb, Hkt, Hkf⟩
  ihave Ht := (buf_split c true) $$ Ht
  ihave Hf := (buf_split c false) $$ Hf
  icases Ht with ⟨Hst, Hrt⟩
  icases Hf with ⟨Hsf, Hrf⟩
  isplitl [Hb]; · iexact Hb
  isplitl [Hc]; · iexact Hc
  isplitl [Hst Hkt Hsf Hkf]
  · isplitl [Hst Hkt]
    · iapply (slots_in c true)
      isplitl [Hst] <;> iassumption
    · iapply (slots_in c false)
      isplitl [Hsf] <;> iassumption
  isplitl [Hrt] <;> iassumption

/-- The body, from what the pipeline carries to it, to what it carries from it. -/
theorem st_point (c : Dev nD) (Q : PUnit → sProp 𝕄) :
    iprop(Φ₀ m c ∗ (∃ W, owes (c : Thread nD τ) (O₀ c) W) ∗ bP (Bm m) c ∗ (∃ f, ((c : Thread nD τ).loc cc0_stg1_0) ↦{fullShare} f))
    ⊢ iprop(((Φ₁ m c ∗ (∃ W, owes (c : Thread nD τ) 0 W) ∗ bP (Bm m) c ∗ ((c : Thread nD τ).loc cc0_stg1_0) ↦{fullShare} outAt (Am m) (Bm m) c) -∗ Q ⟨⟩)
      -∗ wpB c body Q) := by
  unfold Φ₀ startP
  iintro ⟨⟨⟨⟨%K, #Hctx, Hl⟩, Hcb, Hcr, HA⟩, Hbt, Hbf, Hgt, Hgf⟩, HO, HB, ⟨%f, Hout⟩⟩ HQ
  ihave H := (enter c) $$ [Hl Hcr Hbt Hbf]
  · isplitl [Hl]; · iexact Hl
    isplitl [Hcr]; · iexact Hcr
    isplitl [Hbt] <;> iassumption
  unfold cps
  icases H with ⟨⟨Hd1, Hd2, Hat⟩, ⟨Hc1, Hc2⟩, ⟨⟨Hmt, Hot⟩, Hmf, Hof⟩, Hrt, Hrf⟩
  iapply (st_body (Am m) (Bm m) K c Q) $$ [Hd1 Hd2 Hat Hc1 Hc2 Hmt Hot Hmf Hof Hcb HA Hgt Hgf HO HB Hout]
  · isplitr; · iexact Hctx
    unfold bodyIn
    isplitl [Hmt Hmf Hd1 Hd2 Hat Hcb HO]
    · isplitl [Hmt]; · iexact Hmt
      isplitl [Hmf]; · iexact Hmf
      isplitl [Hd1]; · iexact Hd1
      isplitl [Hd2]; · iexact Hd2
      isplitl [Hat]; · iexact Hat
      isplitl [Hcb]; · iexact Hcb
      iexact HO
    isplitl [HA]; · iexact HA
    isplitl [HB]; · iexact HB
    isplitl [Hgt]; · iapply (stg_open c true); unfold stgE; iexact Hgt
    isplitl [Hgf]; · iapply (stg_open c false); unfold stgE; iexact Hgf
    isplitl [Hc1]; · iexact Hc1
    isplitl [Hc2]; · iexact Hc2
    isplitl [Hot]; · iexact Hot
    isplitl [Hof]; · iexact Hof
    unfold oP
    iexists f; isplitr
    · ipureintro; exact fun d j h => absurd h (Nat.not_lt_zero _)
    iexact Hout
  iintro Hpost
  unfold bodyOut env owed
  icases Hpost with ⟨⟨HA, HB, Hgt, Hgf, Hc1, Hc2, HO⟩, Hbar, Hwt, Hwf, Hout⟩
  iapply HQ
  isplitl [HA Hbar Hc1 Hc2 Hwt Hwf Hrt Hrf Hgt Hgf]
  · unfold Φ₁ cps
    isplitl [HA]; · iexact HA
    isplitl [Hbar]; · iexact Hbar
    isplitl [Hc1 Hc2]; · isplitl [Hc1] <;> iassumption
    isplitl [Hwt]; · iexact Hwt
    isplitl [Hwf]; · iexact Hwf
    isplitl [Hrt]; · iexact Hrt
    isplitl [Hrf]; · iexact Hrf
    unfold stgE
    isplitl [Hgt]
    · iapply (stg_close c true _); iexact Hgt
    · iapply (stg_close c false _); iexact Hgf
  isplitl [HO]; · rw [Ow_end]; iexact HO
  isplitl [HB]; · iexact HB
  iapply (oP_full (Am m) (Bm m) c); iexact Hout

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at given contents. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def pointPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def pointPost (c : Dev nD) : sProp 𝕄 :=
  iprop(Φ₁ m c ∗ (dats m 0 c).owesAt () t0_0.succ ∗ stg c cc0_stg0_0 (Bm m c) ∗ stg c cc0_stg1_0 (outAt (Am m) (Bm m) c))

set_option maxRecDepth 16384 in
/-- The body's part of the run. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show pointPre m c ⊢ wpB c (cc0_body (F := F) aM (Memref.isWhole_whole _) bM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8) (fun _ => pointPost m c)
  rw [cc0_body_eq_skeleton, body_eq]
  unfold pointPre stg Dat.owesAt Pipeline.owesWithin
  iintro ⟨HΦ, ⟨%W, -, HO⟩, ⟨%d0, %g0, %hg0, HB⟩, ⟨%d1, %g1, -, Hout⟩⟩
  have hx : g0 = Bm m c := by rw [hg0]; unfold Dat.before; rw [if_pos (fetch0_0 t0_0)]; rfl
  subst hx
  iapply (st_point m c fun _ => pointPost m c) $$ [HΦ HO HB Hout]
  · isplitl [HΦ]; · iexact HΦ
    isplitl [HO]; · iexists W; iexact HO
    isplitl [HB]; · unfold bP; iexact HB
    iexists g1; iexact Hout
  iintro ⟨HΦ, ⟨%W', HO⟩, HB, Hout⟩
  unfold pointPost stg Dat.owesAt Pipeline.owesWithin
  isplitl [HΦ]; · iexact HΦ
  isplitl [HO]
  · iexists W'
    isplitr; · ipureintro; exact fun _ _ => Or.inl trivial
    iexact HO
  isplitl [HB]
  · unfold bP
    iexists _; isplitr; · (ipureintro; rfl)
    iexact HB
  iexists _; isplitr; · (ipureintro; rfl)
  iexact Hout

/-! ## The launch's side conditions -/

theorem ownSemFacts : Pipeline.OwnSemFacts cfg0.spec osem := by decide +kernel

theorem share_eq (c : Dev nD) (w : Fin cfg0.W) : (dats (F := F) m 0 c).share w = fullShare := by
  unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Am m) (Bm m) c)
      ⊢ |={Set.univ}=> iprop(startP m c ∗ emp) := by
  rw [Pipeline.unscopedRestP_eq_of_list spec0 c Pipeline.Prefetch.none _ [main_arg0] (by decide) (by decide),
    show (bigSepL [main_arg0] fun b : Ref sig .tc => ((c : Thread nD τ).loc b) ↦{fullShare} m ((c : Thread nD τ).loc b) : sProp 𝕄) = ((c : Thread nD τ).loc main_arg0) ↦{fullShare} m ((c : Thread nD τ).loc main_arg0) from rfl]
  unfold G'
  iintro ⟨HA, Hlev, Hcr, -, ⟨%K, Hrec, Hl⟩⟩
  ihave Hc := (creds (F := F) c) $$ Hcr
  icases Hc with ⟨H1, HN⟩
  imodintro
  isplitl
  · unfold startP ctx
    isplitl [Hrec Hlev Hl]
    · iexists K
      isplitl [Hrec Hlev]
      · isplitl [Hrec]; · unfold recs; iexact Hrec
        iexact Hlev
      iexact Hl
    isplitl [H1]; · iexact H1
    isplitl [HN]; · iexact HN
    unfold aP Am
    iexact HA
  · iempintro

theorem phi0_intro (c : Dev nD) :
    iprop(startP m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufE stgE
  iintro ⟨Hs, -, H0, H1, H2, H3⟩
  isplitl [Hs]; · iexact Hs
  isplitl [H0]; · iexact H0
  isplitl [H1]; · iexact H1
  isplitl [H2]; · iexact H2
  iexact H3

theorem phi1_exit (c : Dev nD) :
    (dats m 0 c).Φ (Fin.last cfg0.N) ⊢ iprop((unscopedSems0 c ∗ aP (Am m) c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨HA, Hbar, Hc, Hwt, Hwf, Hrt, Hrf, Hgt, Hgf⟩
  ihave Ht := (row_out c true) $$ Hwt
  ihave Hf := (row_out c false) $$ Hwf
  icases Ht with ⟨Hst, Hdt⟩
  icases Hf with ⟨Hsf, Hdf⟩
  isplitl [Hbar HA]
  · isplitl [Hbar] <;> iassumption
  isplitl [Hc Hdt Hdf]
  · isplitl [Hc]; · iexact Hc
    iapply (dones c)
    isplitl [Hdt] <;> iassumption
  isplitl [Hst Hrt]
  · ihave H := (buf_join c true) $$ [Hst Hrt]
    · isplitl [Hst] <;> iassumption
    unfold bufE; iexact H
  isplitl [Hsf Hrf]
  · ihave H := (buf_join c false) $$ [Hsf Hrf]
    · isplitl [Hsf] <;> iassumption
    unfold bufE; iexact H
  unfold stgE
  isplitl [Hgt]; · iexact Hgt
  iexact Hgf

theorem stage_kind : ∀ (w : Fin 2) (s : Fin (spec0 w).nbuf), lvK (kind (SemLoc.dma ((spec0 w).sem s))) = 0 := by decide

theorem waits (c : Dev nD) : (levAts L lv : sProp 𝕄) ⊢ Pipeline.cellsWaits cfgs (dats m) () 0 c :=
  Pipeline.cellsWaits_intro cfgs (dats m) () 0 c fun w s t =>
    mayWait c _ 0 _ (le_of_eq (stage_kind w s)) (by
      rcases t with ⟨_ | _, ht⟩
      · exact above_O₀ c
      · exact Above.zero 0)

/-! ## The run -/

set_option maxRecDepth 65536 in
/-- At any float values and from any memory with zero counters, every weakly fair execution of @main ends; then the windows'
    arrays hold what the pipeline leaves in them, the first operand what it held, and every semaphore is at zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = (dats m 0 c).arrAt w cfg0.N)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (Am m) (Bm m)) (G' := G' (Am m) (Bm m)) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (show BI.own (((Emb.inl : Emb UB (UB × Counters)).trans embR) (initOf ringCells ringToks)) ⊢ (|==> bigSep Finset.univ (G (Am m) (Bm m)) : sProp 𝕄)
        from fund_ring (Am m) (Bm m)) $$ HX with HG
      imodintro
      isplitl [HP] <;> iassumption)
    (hglob := glob (Am m) (Bm m))
    (hA := fun _ _ => rfl) (hpf := fun _ k => k.elim0)
    (X := startP m) (Y := fun c => iprop(unscopedSems0 c ∗ aP (Am m) c)) (Z := fun _ => iprop(emp))
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      unfold aP
      iintro ⟨⟨Hu, HA⟩, -, HSI⟩
      icombine HSI HA gives %h
      imod (Pipeline.unscopedSems0_read (X := unscopedSems0 c) (c := c) fupd_intro s') $$ [Hu HSI] with ⟨%hs, HSI⟩
      · isplitl [Hu] <;> iassumption
      imodintro
      isplitr
      · ipureintro; exact ⟨Buf.eq_of_forall_mem_univ h, hs⟩
      iexact HSI)
    (hQ := fun _ h hs => ⟨fun c => ⟨fun w => (h c).1 w, (h c).2.2.1⟩, sem_eq_zero hs fun c => (h c).2.2.2⟩)

/-- The staged operand is the operand. -/
theorem Bm_eq (c : Dev nD) : Bm m c = m ((c : Thread nD τ).loc main_arg1) := by
  funext y
  refine congrArg (m ((c : Thread nD τ).loc main_arg1)) (funext fun a => Fin.ext ?_)
  fin_cases a
  · show 0 * 1536 + 1 * (y 0).val = (y 0).val; omega
  · show 0 * 3072 + 1 * (y 1).val = (y 1).val; omega

/-- The result's array after the run. -/
theorem arr_out (c : Dev nD) : (dats m 0 c).arrAt (1 : Fin 2) cfg0.N = outAt (Am m) (Bm m) c :=
  (dats m 0 c).arrAt_eq_of_after_last 1 t0_0 (by decide +kernel) (outAt (Am m) (Bm m) c) fun j => rfl

/-- The run, array by array. -/
theorem run_at : θ_run defs (onTc (τ := τ) (main (F := F))) ⟨m, fun _ => 0, ρ⟩ (fun r =>
    (∀ c : Dev nD, r.2.mem ((c : Thread nD τ).loc main_v1) = outAt (Am m) (Bm m) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 1).trans (arr_out m c), (h.1 c).2,
    ((h.1 c).1 0).trans ((dats m 0 c).arrAt_in (0 : Fin 2) rfl _)⟩, h.2⟩) (run_main m ρ)

end Cert.KernelIdeal.Ring

end
-- ==== Proof.Values.lean ====
/-
  The result at the ideal values: device `c`'s rows are its block of the product of the whole arrays.
-/
module

public import proofs.«01_k».proof.Proof.Slots
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.KernelIdeal.Ring

open Cert.KernelIdeal.Gen
open Idealize.ShloMosaic
open Idealize.ShloMosaic.TcCoe
open Idealize.ShloMosaic.ValueIdx
open scoped BigOperators

variable (A : Dev nD → (main_arg0 : Ref sig .tc).ty.Contents (Elt Ideal)) (B : Dev nD → Vec Ideal S1536x3072 .f32)

/-! ## The kernel's arithmetic at an index -/

/-- The product of a segment of rows with a device's rows of the second operand. -/
def mm (a : Vec Ideal S96x1536 .f32) (b : Vec Ideal S1536x3072 .f32) (i : S96x3072.Idx) : EReal :=
  ∑ k : Fin 1536, a (ix2 (i 0) k) * b (ix2 k (i 1))

theorem pay45_at (a : Vec Ideal S96x1536 .f32) (b : Vec Ideal S1536x3072 .f32) (i : S96x3072.Idx) : k0_pay45 (F := Ideal) a b i = mm a b i := by
  unfold k0_pay45 mm
  rw [shapeCast_self, eq_ix2 i]
  refine (Ideal.matmul_plain_apply (M := 96) (K := 1536) (N := 3072) none a b (constant S96x3072 .f32 0x00000000#32) (i 0) (i 1)).trans ?_
  show Ideal.ofBits .f32 0x00000000#32 + _ = _
  rw [Ideal.ofBits_zero_f32, zero_add]

theorem pay9_at (a : Vec Ideal S96x1536 .f32) (b : Vec Ideal S1536x3072 .f32) (i : S96x3072.Idx) : k0_pay9 (F := Ideal) a b i = mm a b i := pay45_at a b i

theorem sq_cast (w : Vec Ideal S96x3072 .bf16) : sq (F := Ideal) (shapeCast S1x96x3072 w shapeCasts_S96x3072_S1x96x3072) = w :=
  funext fun i => congrArg w (by
    show Shape.reshapeEquiv _ (Shape.reshapeEquiv _ i) = i
    rw [Shape.reshapeEquiv_reshapeEquiv, Shape.reshapeEquiv_self])
theorem cast_usq (w : Vec Ideal S96x3072 .bf16) : shapeCast S96x3072 (usq (F := Ideal) w) shapeCasts_S1x96x3072_S96x3072 = w :=
  funext fun i => congrArg w (by rw [Shape.reshapeEquiv_symm, Shape.reshapeEquiv_reshapeEquiv, Shape.reshapeEquiv_self])

theorem pay1_at (a : Vec Ideal S96x1536 .f32) (b : Vec Ideal S1536x3072 .f32) (i : S96x3072.Idx) : (sq (F := Ideal) (k0_pay1 (F := Ideal) a b) i : EReal) = mm a b i := by
  refine Eq.trans (congrFun (sq_cast (k0_pay9 (F := Ideal) a b)) i) (pay9_at a b i)

theorem pay10_at (p w : Vec Ideal S96x3072 .bf16) (i : S96x3072.Idx) : sq (k0_pay10 (F := Ideal) p (usq w)) i = (w i + p i : EReal) := by
  unfold k0_pay10
  rw [sq_cast, cast_usq]
  rfl

theorem pay46_at (p : Vec Ideal S96x3072 .f32) (w : Vec Ideal S96x3072 .bf16) (i : S96x3072.Idx) : k0_pay46 (F := Ideal) p (usq w) i = (w i + p i : EReal) := by
  unfold k0_pay46
  rw [cast_usq]
  rfl

/-- A segment of a device's rows of the product is the sum of the four devices' parts. -/
theorem outv_at (c : Dev nD) (d : Bool) (j : Fin 4) (i : S96x3072.Idx) : outv A B c d j i
    = (mm (aseg A (fr d (fr d (fr d c))) d 0 j) (B (fr d (fr d (fr d c)))) i + mm (aseg A (fr d (fr d c)) d 1 j) (B (fr d (fr d c))) i
        + mm (aseg A (fr d c) d 2 j) (B (fr d c)) i + mm (aseg A c d 3 j) (B c) i : EReal) := by
  unfold outv
  rw [pay46_at, pay45_at]
  simp only [Wv, pay10_at, pay9_at, pay1_at]
  rfl

/-! ## Against the whole arrays -/

variable (A' : FVec Ideal ⟨2, ![3072, 6144]⟩ .f32) (B' : FVec Ideal ⟨2, ![6144, 3072]⟩ .f32)

/-- The whole product. -/
def prod : FVec Ideal ⟨2, ![3072, 3072]⟩ .f32 := fun i => (∑ k : Fin 6144, A' (ix2 (i 0) k) * B' (ix2 k (i 1)) : EReal)

/-- Device `e`'s part of the product. -/
def part (e : Fin 4) (r : Fin 3072) (q : Fin 3072) : EReal :=
  ∑ k : Fin 1536, A' (ix2 r (⟨1536 * e.val + k.val, by omega⟩ : Fin 6144)) * B' (ix2 (⟨1536 * e.val + k.val, by omega⟩ : Fin 6144) q)

theorem prod_parts (r q : Fin 3072) : prod A' B' (ix2 r q) = ∑ e : Fin 4, part A' B' e r q := by
  unfold prod part
  rw [← Fintype.sum_prod_type (f := fun x : Fin 4 × Fin 1536 =>
    (A' (ix2 r (⟨1536 * x.1.val + x.2.val, by omega⟩ : Fin 6144)) * B' (ix2 (⟨1536 * x.1.val + x.2.val, by omega⟩ : Fin 6144) q) : EReal))]
  refine (Fintype.sum_equiv (finProdFinEquiv (m := 4) (n := 1536)) _ _ fun x => ?_).symm
  have e : (⟨1536 * x.1.val + x.2.val, by omega⟩ : Fin 6144) = finProdFinEquiv x := Fin.ext (by simp only [finProdFinEquiv_apply_val]; omega)
  rw [e]

/-- Where the rows staged for chunk `s` begin, on the device that stages them for device `c`'s rows of the product. -/
theorem rows_at : ∀ (c : Dev nD) (d : Bool),
    (aOff (fr d (fr d (fr d c))) d 0 0 = 768 * c.val + (bif d then 0 else 384) ∧ aOff (fr d (fr d c)) d 1 0 = 768 * c.val + (bif d then 0 else 384)
      ∧ aOff (fr d c) d 2 0 = 768 * c.val + (bif d then 0 else 384) ∧ aOff c d 3 0 = 768 * c.val + (bif d then 0 else 384))
    ∧ ∀ (e : Dev nD) (s : Fin 4), aOff e d s 1 = 0 := by decide +kernel

/-- The ring visits every device once. -/
theorem around (c : Dev nD) (d : Bool) (T : Dev nD → EReal) : T (fr d (fr d (fr d c))) + T (fr d (fr d c)) + T (fr d c) + T c = ∑ e : Fin 4, T e := by
  have h : ∀ (c : Dev nD) (d : Bool), (Finset.univ : Finset (Dev nD)) = {fr d (fr d (fr d c)), fr d (fr d c), fr d c, c}
      ∧ fr d (fr d (fr d c)) ∉ ({fr d (fr d c), fr d c, c} : Finset (Dev nD)) ∧ fr d (fr d c) ∉ ({fr d c, c} : Finset (Dev nD))
      ∧ fr d c ∉ ({c} : Finset (Dev nD)) := by decide
  obtain ⟨hu, h3, h2, h1⟩ := h c d
  rw [show (∑ e : Fin 4, T e) = ∑ e ∈ (Finset.univ : Finset (Dev nD)), T e from rfl, hu, Finset.sum_insert h3, Finset.sum_insert h2,
    Finset.sum_insert h1, Finset.sum_singleton, add_assoc, add_assoc]

/-- A device's part, from what it holds. -/
theorem mm_part (hA : ∀ c : Dev nD, A c = Layout.block ⟨2, ![3072, 1536]⟩ ⟨2, ![3072, 6144]⟩ 1 4 c A')
    (hB : ∀ c : Dev nD, B c = Layout.block ⟨2, ![1536, 3072]⟩ ⟨2, ![6144, 3072]⟩ 0 4 c B')
    (e : Dev nD) (d : Bool) (s j : Fin 4) (i : S96x3072.Idx) (r : Fin 3072)
    (h0 : r.val = aOff e d s 0 + 96 * j.val + (i 0).val) (h1 : aOff e d s 1 = 0) : mm (aseg A e d s j) (B e) i = part A' B' e r (i 1) := by
  unfold mm part
  refine Finset.sum_congr rfl fun k _ => ?_
  have ea : aseg A e d s j (ix2 (i 0) k) = A' (ix2 r (⟨1536 * e.val + k.val, by have : e.val < 4 := e.isLt; omega⟩ : Fin 6144)) := by
    show A e _ = _
    rw [hA e]
    refine congrArg A' (funext fun a => Fin.ext ?_)
    fin_cases a
    · show aOff e d s 0 + 1 * (96 * j.val + 1 * (i 0).val) = r.val
      omega
    · show e.val * 1536 + (aOff e d s 1 + 1 * (0 + 1 * k.val)) = 1536 * e.val + k.val
      omega
  have eb : B e (ix2 k (i 1)) = B' (ix2 (⟨1536 * e.val + k.val, by have : e.val < 4 := e.isLt; omega⟩ : Fin 6144) (i 1)) := by
    rw [hB e]
    refine congrArg B' (funext fun a => Fin.ext ?_)
    fin_cases a
    · show e.val * 1536 + k.val = 1536 * e.val + k.val
      omega
    · rfl
  rw [ea, eb]

/-- A device's result is its block of the whole product. -/
theorem outAt_block (hA : ∀ c : Dev nD, A c = Layout.block ⟨2, ![3072, 1536]⟩ ⟨2, ![3072, 6144]⟩ 1 4 c A')
    (hB : ∀ c : Dev nD, B c = Layout.block ⟨2, ![1536, 3072]⟩ ⟨2, ![6144, 3072]⟩ 0 4 c B') (c : Dev nD) :
    outAt A B c = Layout.block ⟨2, ![768, 3072]⟩ ⟨2, ![3072, 3072]⟩ 0 4 c (prod A' B') := by
  funext i
  have hi0 : ((i : S768x3072.Idx) 0).val < 768 := ((i : S768x3072.Idx) 0).isLt
  have hc : c.val < 4 := c.isLt
  let r : Fin 3072 := ⟨768 * c.val + ((i : S768x3072.Idx) 0).val, by omega⟩
  let q : Fin 3072 := (i : S768x3072.Idx) 1
  have hb : Layout.block ⟨2, ![768, 3072]⟩ ⟨2, ![3072, 3072]⟩ 0 4 c (prod A' B') (by decide) i = prod A' B' (ix2 r q) := by
    refine congrArg (prod A' B') (funext fun a => Fin.ext ?_)
    fin_cases a
    · show c.val * 768 + ((i : S768x3072.Idx) 0).val = 768 * c.val + ((i : S768x3072.Idx) 0).val
      omega
    · rfl
  rw [hb, prod_parts, ← around c (decide (((i : S768x3072.Idx) 0).val < 384)) fun e => part A' B' e r q]
  unfold outAt
  rw [outv_at]
  obtain ⟨⟨r0, r1, r2, r3⟩, z⟩ := rows_at c (decide (((i : S768x3072.Idx) 0).val < 384))
  have hr : r.val = 768 * c.val + (bif decide (((i : S768x3072.Idx) 0).val < 384) then 0 else 384)
      + 96 * (((i : S768x3072.Idx) 0).val % 384 / 96) + (outIx i 0).val := by
    show 768 * c.val + ((i : S768x3072.Idx) 0).val = _ + ((i : S768x3072.Idx) 0).val % 96
    by_cases hlt : ((i : S768x3072.Idx) 0).val < 384
    · rw [decide_eq_true hlt]; simp only [cond_true]; omega
    · rw [decide_eq_false hlt]; simp only [cond_false]; omega
  rw [mm_part A B A' B' hA hB _ _ 0 _ (outIx i) r (by rw [r0]; exact hr) (z _ _), mm_part A B A' B' hA hB _ _ 1 _ (outIx i) r (by rw [r1]; exact hr) (z _ _),
    mm_part A B A' B' hA hB _ _ 2 _ (outIx i) r (by rw [r2]; exact hr) (z _ _), mm_part A B A' B' hA hB _ _ 3 _ (outIx i) r (by rw [r3]; exact hr) (z _ _)]
  rfl

/-- The reference's product is the whole product. -/
theorem ref_prod : Host.dotGeneral (F := Ideal) (φ₁ := .f32) (φ₂ := .f32) (DotDims.plain 3072 6144 3072) none A' B' = prod A' B' := by
  funext i
  rw [eq_ix2 i]
  exact StackMember.dotGeneral_plain_apply none A' B' (i 0) (i 1)

end Cert.KernelIdeal.Ring

end
-- ==== Proof.lean ====
/- The certificate's claims: the frames of the three programs, the comparison of the kernel with its idealized text, and the equality of
   values with the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Values
public import Idealize.ShloMosaic.Adequacy
public import Idealize.ShloMosaic.Init

@[expose] public section

set_option maxRecDepth 65536

noncomputable section

namespace Cert.Proof

open Idealize.ShloMosaic Idealize.SL.Sem

/-- The kernel and its idealized text have the same bodies, -/
theorem defs₀_eq {F : FTy → Type} [FloatOps F] : Cert.Kernel.defs₀ (F := F) = Cert.KernelIdeal.defs₀ (F := F) := by
  unfold Cert.Kernel.defs₀ Cert.KernelIdeal.defs₀
  exact congrArg Defs.onTc (funext fun ℓ => funext fun x => match ℓ, x with
    | 0, (_, _) => rfl
    | ⟨_ + 1, h⟩, _ => absurd h (Nat.not_lt.2 (Nat.le_add_left _ _)))
/-- so the same program. -/
theorem defs_eq {F : FTy → Type} [FloatOps F] : Cert.Kernel.defs (F := F) = Cert.KernelIdeal.defs (F := F) :=
  congrArg (Pipeline.defs (Cert.KernelIdeal.pcfgs (F := F))) defs₀_eq

/-- The kernel leaves its arguments as they were and its semaphores at zero. -/
theorem frame_kernel : Cert.quiescent_Kernel := by
  intro m ρ _
  rw [defs_eq]
  exact (θ_run Cert.KernelIdeal.defs _ _).mono (fun _ h => And.intro (fun c => (h.1 c).2) h.2) (Cert.KernelIdeal.Ring.run_at (F := Bits) m ρ)

/-- So does the idealized kernel. -/
theorem frame_ideal : Cert.quiescent_KernelIdeal := fun m ρ _ =>
  (θ_run Cert.KernelIdeal.defs _ _).mono (fun _ h => ⟨fun c => (h.1 c).2, h.2⟩) (Cert.KernelIdeal.Ring.run_at (F := Ideal) m ρ)

/-- And the reference. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the ideal values, from operands that are blocks of the reference's, every device's result is its block of the reference's result. -/
theorem algebraic : Cert.algebraic_KernelIdeal_ReferenceIdeal := by
  intro m ρ m' ρ' _ hagree
  refine ⟨_, (θ_run Cert.KernelIdeal.defs _ _).mono (fun _ h c => ⟨(h.1 c).1.trans
      (Cert.KernelIdeal.Ring.outAt_block _ _ _ _ (fun c => (hagree c).1) (fun c => (Cert.KernelIdeal.Ring.Bm_eq m c).trans (hagree c).2) c), (h.1 c).2⟩)
      (Cert.KernelIdeal.Ring.run_at (F := Ideal) m ρ), ?_⟩
  exact (θ_run Cert.ReferenceIdeal.defs _ _).mono (fun _ h => ⟨(h 0).1.trans (Cert.KernelIdeal.Ring.ref_prod _ _), (h 0).2⟩)
    (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_ref, trivial, algebraic⟩

end Cert.Proof

end
